-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x96x512x512 : Shape := ⟨4, ![2, 96, 512, 512]⟩
abbrev S256x256x4x2 : Shape := ⟨4, ![256, 256, 4, 2]⟩
abbrev S256x256x4x1 : Shape := ⟨4, ![256, 256, 4, 1]⟩
abbrev S256x256x4 : Shape := ⟨3, ![256, 256, 4]⟩
abbrev S_ : Shape := ⟨0, ![]⟩
abbrev S262144 : Shape := ⟨1, ![262144]⟩
abbrev S1x96x512x512 : Shape := ⟨4, ![1, 96, 512, 512]⟩
abbrev S96x512x512 : Shape := ⟨3, ![96, 512, 512]⟩
abbrev S512x512x128 : Shape := ⟨3, ![512, 512, 128]⟩
abbrev S96x8x512 : Shape := ⟨3, ![96, 8, 512]⟩
abbrev S8x512x128 : Shape := ⟨3, ![8, 512, 128]⟩
abbrev S96x1x512 : Shape := ⟨3, ![96, 1, 512]⟩
abbrev S96x512 : Shape := ⟨2, ![96, 512]⟩
abbrev S512x96 : Shape := ⟨2, ![512, 96]⟩
abbrev S1x512x96 : Shape := ⟨3, ![1, 512, 96]⟩
abbrev S512x32 : Shape := ⟨2, ![512, 32]⟩
abbrev S1x512x32 : Shape := ⟨3, ![1, 512, 32]⟩
abbrev S262144x128 : Shape := ⟨2, ![262144, 128]⟩
abbrev S65536x96 : Shape := ⟨2, ![65536, 96]⟩
abbrev S8192 : Shape := ⟨1, ![8192]⟩
abbrev S128x128 : Shape := ⟨2, ![128, 128]⟩
abbrev S32x96 : Shape := ⟨2, ![32, 96]⟩
abbrev S128 : Shape := ⟨1, ![128]⟩
abbrev S1x16 : Shape := ⟨2, ![1, 16]⟩
abbrev S16 : Shape := ⟨1, ![16]⟩
abbrev S256x256x96 : Shape := ⟨3, ![256, 256, 96]⟩
abbrev S96x256x256 : Shape := ⟨3, ![96, 256, 256]⟩
abbrev S8x256x96 : Shape := ⟨3, ![8, 256, 96]⟩
abbrev S96x8x256 : Shape := ⟨3, ![96, 8, 256]⟩
abbrev S1x256x96 : Shape := ⟨3, ![1, 256, 96]⟩
abbrev S256x96 : Shape := ⟨2, ![256, 96]⟩
abbrev S96x256 : Shape := ⟨2, ![96, 256]⟩
abbrev S96x1x256 : Shape := ⟨3, ![96, 1, 256]⟩
abbrev S1x96x256x256 : Shape := ⟨4, ![1, 96, 256, 256]⟩
abbrev S2x96x256x256 : Shape := ⟨4, ![2, 96, 256, 256]⟩

abbrev nBuf : Table → Nat
  | .hbm => 46
  | .local .tc .vmem => 16
  | .local .scVector .vmem => 10
  | _ => 0

abbrev bufTy : (tb : Table) → Fin (nBuf tb) → BufTy
  | .hbm, ⟨0, _⟩ => ⟨S2x96x512x512, .f32⟩
  | .hbm, ⟨1, _⟩ => ⟨S256x256x4x2, .f32⟩
  | .hbm, ⟨2, _⟩ => ⟨S256x256x4x2, .f32⟩
  | .hbm, ⟨3, _⟩ => ⟨S256x256x4x2, .i32⟩
  | .hbm, ⟨4, _⟩ => ⟨S256x256x4x1, .i32⟩
  | .hbm, ⟨5, _⟩ => ⟨S256x256x4, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S256x256x4, .i32⟩
  | .hbm, ⟨10, _⟩ => ⟨S256x256x4, .i32⟩
  | .hbm, ⟨11, _⟩ => ⟨S_, .i32⟩
  | .hbm, ⟨12, _⟩ => ⟨S256x256x4, .i32⟩
  | .hbm, ⟨13, _⟩ => ⟨S256x256x4, .i32⟩
  | .hbm, ⟨14, _⟩ => ⟨S256x256x4x1, .i32⟩
  | .hbm, ⟨15, _⟩ => ⟨S256x256x4, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S256x256x4, .i32⟩
  | .hbm, ⟨20, _⟩ => ⟨S256x256x4, .i32⟩
  | .hbm, ⟨21, _⟩ => ⟨S_, .i32⟩
  | .hbm, ⟨22, _⟩ => ⟨S256x256x4, .i32⟩
  | .hbm, ⟨23, _⟩ => ⟨S256x256x4, .i32⟩
  | .hbm, ⟨24, _⟩ => ⟨S_, .i32⟩
  | .hbm, ⟨25, _⟩ => ⟨S256x256x4, .i32⟩
  | .hbm, ⟨26, _⟩ => ⟨S256x256x4, .i32⟩
  | .hbm, ⟨27, _⟩ => ⟨S256x256x4, .i32⟩
  | .hbm, ⟨28, _⟩ => ⟨S262144, .i32⟩
  | .hbm, ⟨29, _⟩ => ⟨S1x96x512x512, .f32⟩
  | .hbm, ⟨30, _⟩ => ⟨S96x512x512, .f32⟩
  | .hbm, ⟨31, _⟩ => ⟨S512x512x128, .f32⟩
  | .hbm, ⟨32, _⟩ => ⟨S262144x128, .f32⟩
  | .hbm, ⟨33, _⟩ => ⟨S65536x96, .f32⟩
  | .hbm, ⟨34, _⟩ => ⟨S256x256x96, .f32⟩
  | .hbm, ⟨35, _⟩ => ⟨S96x256x256, .f32⟩
  | .hbm, ⟨36, _⟩ => ⟨S1x96x512x512, .f32⟩
  | .hbm, ⟨37, _⟩ => ⟨S96x512x512, .f32⟩
  | .hbm, ⟨38, _⟩ => ⟨S512x512x128, .f32⟩
  | .hbm, ⟨39, _⟩ => ⟨S262144x128, .f32⟩
  | .hbm, ⟨40, _⟩ => ⟨S65536x96, .f32⟩
  | .hbm, ⟨41, _⟩ => ⟨S256x256x96, .f32⟩
  | .hbm, ⟨42, _⟩ => ⟨S96x256x256, .f32⟩
  | .hbm, ⟨43, _⟩ => ⟨S1x96x256x256, .f32⟩
  | .hbm, ⟨44, _⟩ => ⟨S1x96x256x256, .f32⟩
  | .hbm, ⟨45, _⟩ => ⟨S2x96x256x256, .f32⟩
  | .local .tc .vmem, ⟨0, _⟩ => ⟨S96x8x512, .f32⟩
  | .local .tc .vmem, ⟨1, _⟩ => ⟨S96x8x512, .f32⟩
  | .local .tc .vmem, ⟨2, _⟩ => ⟨S8x512x128, .f32⟩
  | .local .tc .vmem, ⟨3, _⟩ => ⟨S8x512x128, .f32⟩
  | .local .tc .vmem, ⟨4, _⟩ => ⟨S8x256x96, .f32⟩
  | .local .tc .vmem, ⟨5, _⟩ => ⟨S8x256x96, .f32⟩
  | .local .tc .vmem, ⟨6, _⟩ => ⟨S96x8x256, .f32⟩
  | .local .tc .vmem, ⟨7, _⟩ => ⟨S96x8x256, .f32⟩
  | .local .tc .vmem, ⟨8, _⟩ => ⟨S96x8x512, .f32⟩
  | .local .tc .vmem, ⟨9, _⟩ => ⟨S96x8x512, .f32⟩
  | .local .tc .vmem, ⟨10, _⟩ => ⟨S8x512x128, .f32⟩
  | .local .tc .vmem, ⟨11, _⟩ => ⟨S8x512x128, .f32⟩
  | .local .tc .vmem, ⟨12, _⟩ => ⟨S8x256x96, .f32⟩
  | .local .tc .vmem, ⟨13, _⟩ => ⟨S8x256x96, .f32⟩
  | .local .tc .vmem, ⟨14, _⟩ => ⟨S96x8x256, .f32⟩
  | .local .tc .vmem, ⟨15, _⟩ => ⟨S96x8x256, .f32⟩
  | .local .scVector .vmem, ⟨0, _⟩ => ⟨S8192, .i32⟩
  | .local .scVector .vmem, ⟨1, _⟩ => ⟨S128x128, .f32⟩
  | .local .scVector .vmem, ⟨2, _⟩ => ⟨S128x128, .f32⟩
  | .local .scVector .vmem, ⟨3, _⟩ => ⟨S32x96, .f32⟩
  | .local .scVector .vmem, ⟨4, _⟩ => ⟨S32x96, .f32⟩
  | .local .scVector .vmem, ⟨5, _⟩ => ⟨S8192, .i32⟩
  | .local .scVector .vmem, ⟨6, _⟩ => ⟨S128x128, .f32⟩
  | .local .scVector .vmem, ⟨7, _⟩ => ⟨S128x128, .f32⟩
  | .local .scVector .vmem, ⟨8, _⟩ => ⟨S32x96, .f32⟩
  | .local .scVector .vmem, ⟨9, _⟩ => ⟨S32x96, .f32⟩
  | _, _ => ⟨S2x96x512x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 26 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => false
  | ⟨18, _⟩ => false
  | ⟨19, _⟩ => false
  | ⟨20, _⟩ => false
  | ⟨21, _⟩ => false
  | ⟨22, _⟩ => true
  | ⟨23, _⟩ => true
  | ⟨24, _⟩ => true
  | ⟨25, _⟩ => true
  | _ => false

abbrev sig : RefSig :=
  ofTables nBuf rfl bufTy 4 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_c_0 : Ref sig .tc := ⟨.hbm, 7, rfl⟩
abbrev main_call1_v0 : Ref sig .tc := ⟨.hbm, 8, rfl⟩
abbrev main_call1_v1 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_c_2 : Ref sig .tc := ⟨.hbm, 17, rfl⟩
abbrev main_call2_v0 : Ref sig .tc := ⟨.hbm, 18, rfl⟩
abbrev main_call2_v1 : Ref sig .tc := ⟨.hbm, 19, rfl⟩
abbrev main_call2_v2 : Ref sig .tc := ⟨.hbm, 20, rfl⟩
abbrev main_call2_v3 : Ref sig .tc := ⟨.hbm, 21, rfl⟩
abbrev main_call2_v4 : Ref sig .tc := ⟨.hbm, 22, rfl⟩
abbrev main_v7 : Ref sig .tc := ⟨.hbm, 23, rfl⟩
abbrev main_c_3 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v15_scv : Ref sig .scVector := ⟨.hbm, 32, rfl⟩
abbrev main_v11_scv : Ref sig .scVector := ⟨.hbm, 28, rfl⟩
abbrev main_v16_scv : Ref sig .scVector := ⟨.hbm, 33, rfl⟩
abbrev main_v22_scv : Ref sig .scVector := ⟨.hbm, 39, rfl⟩
abbrev main_v23_scv : Ref sig .scVector := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc2_stg0_0 : Ref sig .tc := ⟨.vmem, 4, rfl⟩
abbrev cc2_stg0_1 : Ref sig .tc := ⟨.vmem, 5, rfl⟩
abbrev cc2_stg1_0 : Ref sig .tc := ⟨.vmem, 6, rfl⟩
abbrev cc2_stg1_1 : Ref sig .tc := ⟨.vmem, 7, rfl⟩
abbrev cc3_stg0_0 : Ref sig .tc := ⟨.vmem, 8, rfl⟩
abbrev cc3_stg0_1 : Ref sig .tc := ⟨.vmem, 9, rfl⟩
abbrev cc3_stg1_0 : Ref sig .tc := ⟨.vmem, 10, rfl⟩
abbrev cc3_stg1_1 : Ref sig .tc := ⟨.vmem, 11, rfl⟩
abbrev cc5_stg0_0 : Ref sig .tc := ⟨.vmem, 12, rfl⟩
abbrev cc5_stg0_1 : Ref sig .tc := ⟨.vmem, 13, rfl⟩
abbrev cc5_stg1_0 : Ref sig .tc := ⟨.vmem, 14, rfl⟩
abbrev cc5_stg1_1 : Ref sig .tc := ⟨.vmem, 15, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc4_scratch0 : Ref sig .scVector := ⟨.vmem, 5, rfl⟩
abbrev cc4_scratch1 : Ref sig .scVector := ⟨.vmem, 6, rfl⟩
abbrev cc4_scratch2 : Ref sig .scVector := ⟨.vmem, 7, rfl⟩
abbrev cc4_scratch3 : Ref sig .scVector := ⟨.vmem, 8, rfl⟩
abbrev cc4_scratch4 : Ref sig .scVector := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc2_sem0_0 : DmaSem sig := 9
abbrev cc2_sem0_1 : DmaSem sig := 10
abbrev cc2_sem1_0 : DmaSem sig := 11
abbrev cc2_sem1_1 : DmaSem sig := 12
abbrev cc3_sem0_0 : DmaSem sig := 13
abbrev cc3_sem0_1 : DmaSem sig := 14
abbrev cc3_sem1_0 : DmaSem sig := 15
abbrev cc3_sem1_1 : DmaSem sig := 16
abbrev cc5_sem0_0 : DmaSem sig := 22
abbrev cc5_sem0_1 : DmaSem sig := 23
abbrev cc5_sem1_0 : DmaSem sig := 24
abbrev cc5_sem1_1 : DmaSem sig := 25
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S96x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c4_i32 : BitVec 32 := 4#32
  let v3 : BitVec 32 := Scalar.muli v2 c4_i32
  ![v3.toNat]
@[reducible] def k1_t1_loop : Scf.Loop 32 :=
  let c0_i32_5 : BitVec 32 := 0#32
  let c32_i32 : BitVec 32 := 32#32
  let v8 : BitVec 32 := Scalar.addi c0_i32_5 c32_i32
  let c1_i32 : BitVec 32 := 1#32
  ⟨c0_i32_5, v8, c1_i32⟩
def k1_off2 (k1_t1 : Fin k1_t1_loop.trips) (c0_i32_17 : BitVec 32) : Fin 1 → Nat :=
  let c2_i32_16 : BitVec 32 := 2#32
  let c0_i32_5 : BitVec 32 := 0#32
  let c1_i32 : BitVec 32 := 1#32
  let arg14 : BitVec 32 := Scf.iv c0_i32_5 c1_i32 k1_t1
  let v18 : BitVec 32 := Scalar.muli c2_i32_16 arg14
  let v19 : BitVec 32 := Scalar.addi v18 c0_i32_17
  let c128_i32_18 : BitVec 32 := 128#32
  let v20 : BitVec 32 := Scalar.muli v19 c128_i32_18
  ![v20.toNat]
def k1_cond1 (k1_t1 : Fin k1_t1_loop.trips) : BitVec 1 :=
  let c0_i32_5 : BitVec 32 := 0#32
  let c1_i32 : BitVec 32 := 1#32
  let arg14 : BitVec 32 := Scf.iv c0_i32_5 c1_i32 k1_t1
  let c0_i32_21 : BitVec 32 := 0#32
  let v23 : BitVec 1 := Scalar.cmpi .sgt arg14 c0_i32_21
  let v24 : BitVec 32 := Scalar.extui v23
  let c0_i32_22 : BitVec 32 := 0#32
  let v25 : BitVec 1 := Scalar.cmpi .ne v24 c0_i32_22
  v25

def k1_off3 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_56 : BitVec 32 := 0#32
  ![v2.toNat, 0]
@[reducible] def k1_t2_loop : Scf.Loop 32 :=
  let c0_i32_24 : BitVec 32 := 0#32
  let c32_i32_25 : BitVec 32 := 32#32
  let v26 : BitVec 32 := Scalar.addi c0_i32_24 c32_i32_25
  let c1_i32_26 : BitVec 32 := 1#32
  ⟨c0_i32_24, v26, c1_i32_26⟩
def k1_off4 (k1_t2 : Fin k1_t2_loop.trips) : Fin 2 → Nat :=
  let c4_i32_56 : BitVec 32 := 4#32
  let c0_i32_24 : BitVec 32 := 0#32
  let c1_i32_26 : BitVec 32 := 1#32
  let arg16 : BitVec 32 := Scf.iv c0_i32_24 c1_i32_26 k1_t2
  let v56 : BitVec 32 := Scalar.muli c4_i32_56 arg16
  let v57 : Index := Scalar.indexCast v56
  let c0 : Index := 0#32
  ![v57.toNat, 0]
def k1_off5 (k1_t2 : Fin k1_t2_loop.trips) (c1_i32_58 : BitVec 32) : Fin 2 → Nat :=
  let c4_i32_57 : BitVec 32 := 4#32
  let c0_i32_24 : BitVec 32 := 0#32
  let c1_i32_26 : BitVec 32 := 1#32
  let arg16 : BitVec 32 := Scf.iv c0_i32_24 c1_i32_26 k1_t2
  let v60 : BitVec 32 := Scalar.muli c4_i32_57 arg16
  let v61 : BitVec 32 := Scalar.addi v60 c1_i32_58
  let v62 : Index := Scalar.indexCast v61
  let c0_59 : Index := 0#32
  ![v62.toNat, 0]
def k1_off6 (k1_t2 : Fin k1_t2_loop.trips) : Fin 2 → Nat :=
  let c0_i32_24 : BitVec 32 := 0#32
  let c1_i32_26 : BitVec 32 := 1#32
  let arg16 : BitVec 32 := Scf.iv c0_i32_24 c1_i32_26 k1_t2
  let v78 : Index := Scalar.indexCast arg16
  let c0_65 : Index := 0#32
  ![v78.toNat, 0]
def k1_off7 (k1_t2 : Fin k1_t2_loop.trips) : Fin 2 → Nat :=
  let c4_i32_66 : BitVec 32 := 4#32
  let c0_i32_24 : BitVec 32 := 0#32
  let c1_i32_26 : BitVec 32 := 1#32
  let arg16 : BitVec 32 := Scf.iv c0_i32_24 c1_i32_26 k1_t2
  let v82 : BitVec 32 := Scalar.muli c4_i32_66 arg16
  let v83 : Index := Scalar.indexCast v82
  let c16 : Index := 16#32
  ![v83.toNat, 16]
def k1_off8 (k1_t2 : Fin k1_t2_loop.trips) (c1_i32_68 : BitVec 32) : Fin 2 → Nat :=
  let c4_i32_67 : BitVec 32 := 4#32
  let c0_i32_24 : BitVec 32 := 0#32
  let c1_i32_26 : BitVec 32 := 1#32
  let arg16 : BitVec 32 := Scf.iv c0_i32_24 c1_i32_26 k1_t2
  let v86 : BitVec 32 := Scalar.muli c4_i32_67 arg16
  let v87 : BitVec 32 := Scalar.addi v86 c1_i32_68
  let v88 : Index := Scalar.indexCast v87
  let c16_69 : Index := 16#32
  ![v88.toNat, 16]
def k1_off9 (k1_t2 : Fin k1_t2_loop.trips) : Fin 2 → Nat :=
  let c0_i32_24 : BitVec 32 := 0#32
  let c1_i32_26 : BitVec 32 := 1#32
  let arg16 : BitVec 32 := Scf.iv c0_i32_24 c1_i32_26 k1_t2
  let v104 : Index := Scalar.indexCast arg16
  let c16_76 : Index := 16#32
  ![v104.toNat, 16]
def k1_off10 (k1_t2 : Fin k1_t2_loop.trips) : Fin 2 → Nat :=
  let c4_i32_77 : BitVec 32 := 4#32
  let c0_i32_24 : BitVec 32 := 0#32
  let c1_i32_26 : BitVec 32 := 1#32
  let arg16 : BitVec 32 := Scf.iv c0_i32_24 c1_i32_26 k1_t2
  let v108 : BitVec 32 := Scalar.muli c4_i32_77 arg16
  let v109 : Index := Scalar.indexCast v108
  let c32 : Index := 32#32
  ![v109.toNat, 32]
def k1_off11 (k1_t2 : Fin k1_t2_loop.trips) (c1_i32_79 : BitVec 32) : Fin 2 → Nat :=
  let c4_i32_78 : BitVec 32 := 4#32
  let c0_i32_24 : BitVec 32 := 0#32
  let c1_i32_26 : BitVec 32 := 1#32
  let arg16 : BitVec 32 := Scf.iv c0_i32_24 c1_i32_26 k1_t2
  let v112 : BitVec 32 := Scalar.muli c4_i32_78 arg16
  let v113 : BitVec 32 := Scalar.addi v112 c1_i32_79
  let v114 : Index := Scalar.indexCast v113
  let c32_80 : Index := 32#32
  ![v114.toNat, 32]
def k1_off12 (k1_t2 : Fin k1_t2_loop.trips) : Fin 2 → Nat :=
  let c0_i32_24 : BitVec 32 := 0#32
  let c1_i32_26 : BitVec 32 := 1#32
  let arg16 : BitVec 32 := Scf.iv c0_i32_24 c1_i32_26 k1_t2
  let v130 : Index := Scalar.indexCast arg16
  let c32_87 : Index := 32#32
  ![v130.toNat, 32]
def k1_off13 (k1_t2 : Fin k1_t2_loop.trips) : Fin 2 → Nat :=
  let c4_i32_88 : BitVec 32 := 4#32
  let c0_i32_24 : BitVec 32 := 0#32
  let c1_i32_26 : BitVec 32 := 1#32
  let arg16 : BitVec 32 := Scf.iv c0_i32_24 c1_i32_26 k1_t2
  let v134 : BitVec 32 := Scalar.muli c4_i32_88 arg16
  let v135 : Index := Scalar.indexCast v134
  let c48 : Index := 48#32
  ![v135.toNat, 48]
def k1_off14 (k1_t2 : Fin k1_t2_loop.trips) (c1_i32_90 : BitVec 32) : Fin 2 → Nat :=
  let c4_i32_89 : BitVec 32 := 4#32
  let c0_i32_24 : BitVec 32 := 0#32
  let c1_i32_26 : BitVec 32 := 1#32
  let arg16 : BitVec 32 := Scf.iv c0_i32_24 c1_i32_26 k1_t2
  let v138 : BitVec 32 := Scalar.muli c4_i32_89 arg16
  let v139 : BitVec 32 := Scalar.addi v138 c1_i32_90
  let v140 : Index := Scalar.indexCast v139
  let c48_91 : Index := 48#32
  ![v140.toNat, 48]
def k1_off15 (k1_t2 : Fin k1_t2_loop.trips) : Fin 2 → Nat :=
  let c0_i32_24 : BitVec 32 := 0#32
  let c1_i32_26 : BitVec 32 := 1#32
  let arg16 : BitVec 32 := Scf.iv c0_i32_24 c1_i32_26 k1_t2
  let v156 : Index := Scalar.indexCast arg16
  let c48_98 : Index := 48#32
  ![v156.toNat, 48]
def k1_off16 (k1_t2 : Fin k1_t2_loop.trips) : Fin 2 → Nat :=
  let c4_i32_99 : BitVec 32 := 4#32
  let c0_i32_24 : BitVec 32 := 0#32
  let c1_i32_26 : BitVec 32 := 1#32
  let arg16 : BitVec 32 := Scf.iv c0_i32_24 c1_i32_26 k1_t2
  let v160 : BitVec 32 := Scalar.muli c4_i32_99 arg16
  let v161 : Index := Scalar.indexCast v160
  let c64 : Index := 64#32
  ![v161.toNat, 64]
def k1_off17 (k1_t2 : Fin k1_t2_loop.trips) (c1_i32_101 : BitVec 32) : Fin 2 → Nat :=
  let c4_i32_100 : BitVec 32 := 4#32
  let c0_i32_24 : BitVec 32 := 0#32
  let c1_i32_26 : BitVec 32 := 1#32
  let arg16 : BitVec 32 := Scf.iv c0_i32_24 c1_i32_26 k1_t2
  let v164 : BitVec 32 := Scalar.muli c4_i32_100 arg16
  let v165 : BitVec 32 := Scalar.addi v164 c1_i32_101
  let v166 : Index := Scalar.indexCast v165
  let c64_102 : Index := 64#32
  ![v166.toNat, 64]
def k1_off18 (k1_t2 : Fin k1_t2_loop.trips) : Fin 2 → Nat :=
  let c0_i32_24 : BitVec 32 := 0#32
  let c1_i32_26 : BitVec 32 := 1#32
  let arg16 : BitVec 32 := Scf.iv c0_i32_24 c1_i32_26 k1_t2
  let v182 : Index := Scalar.indexCast arg16
  let c64_109 : Index := 64#32
  ![v182.toNat, 64]
def k1_off19 (k1_t2 : Fin k1_t2_loop.trips) : Fin 2 → Nat :=
  let c4_i32_110 : BitVec 32 := 4#32
  let c0_i32_24 : BitVec 32 := 0#32
  let c1_i32_26 : BitVec 32 := 1#32
  let arg16 : BitVec 32 := Scf.iv c0_i32_24 c1_i32_26 k1_t2
  let v186 : BitVec 32 := Scalar.muli c4_i32_110 arg16
  let v187 : Index := Scalar.indexCast v186
  let c80 : Index := 80#32
  ![v187.toNat, 80]
def k1_off20 (k1_t2 : Fin k1_t2_loop.trips) (c1_i32_112 : BitVec 32) : Fin 2 → Nat :=
  let c4_i32_111 : BitVec 32 := 4#32
  let c0_i32_24 : BitVec 32 := 0#32
  let c1_i32_26 : BitVec 32 := 1#32
  let arg16 : BitVec 32 := Scf.iv c0_i32_24 c1_i32_26 k1_t2
  let v190 : BitVec 32 := Scalar.muli c4_i32_111 arg16
  let v191 : BitVec 32 := Scalar.addi v190 c1_i32_112
  let v192 : Index := Scalar.indexCast v191
  let c80_113 : Index := 80#32
  ![v192.toNat, 80]
def k1_off21 (k1_t2 : Fin k1_t2_loop.trips) : Fin 2 → Nat :=
  let c0_i32_24 : BitVec 32 := 0#32
  let c1_i32_26 : BitVec 32 := 1#32
  let arg16 : BitVec 32 := Scf.iv c0_i32_24 c1_i32_26 k1_t2
  let v208 : Index := Scalar.indexCast arg16
  let c80_120 : Index := 80#32
  ![v208.toNat, 80]
def k1_off22 (i : grid1.Coords) (k1_t1 : Fin k1_t1_loop.trips) (c0_i32_17 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c2_i32_16 : BitVec 32 := 2#32
  let c0_i32_5 : BitVec 32 := 0#32
  let c1_i32 : BitVec 32 := 1#32
  let arg14 : BitVec 32 := Scf.iv c0_i32_5 c1_i32 k1_t1
  let v18 : BitVec 32 := Scalar.muli c2_i32_16 arg14
  let v19 : BitVec 32 := Scalar.addi v18 c0_i32_17
  let c32_i32_28 : BitVec 32 := 32#32
  let v28 : BitVec 32 := Scalar.muli v19 c32_i32_28
  let v29 : BitVec 32 := Scalar.addi v2 v28
  let c0_i32_29 : BitVec 32 := 0#32
  ![v29.toNat, 0]
def k1_off23 (k1_t1 : Fin k1_t1_loop.trips) (c0_i32_17 : BitVec 32) : Fin 1 → Nat :=
  let c2_i32_16 : BitVec 32 := 2#32
  let c0_i32_5 : BitVec 32 := 0#32
  let c1_i32 : BitVec 32 := 1#32
  let arg14 : BitVec 32 := Scf.iv c0_i32_5 c1_i32 k1_t1
  let v18 : BitVec 32 := Scalar.muli c2_i32_16 arg14
  let v19 : BitVec 32 := Scalar.addi v18 c0_i32_17
  let c2_i32_31 : BitVec 32 := 2#32
  let v32 : BitVec 32 := Scalar.addi v19 c2_i32_31
  let c63_i32 : BitVec 32 := 63#32
  let v33 : BitVec 32 := Scalar.minsi v32 c63_i32
  let c128_i32_32 : BitVec 32 := 128#32
  let v34 : BitVec 32 := Scalar.muli v33 c128_i32_32
  ![v34.toNat]
def k1_cond2 (k1_t1 : Fin k1_t1_loop.trips) : BitVec 1 :=
  let c0_i32_5 : BitVec 32 := 0#32
  let c1_i32 : BitVec 32 := 1#32
  let arg14 : BitVec 32 := Scf.iv c0_i32_5 c1_i32 k1_t1
  let c0_i32_40 : BitVec 32 := 0#32
  let v42 : BitVec 1 := Scalar.cmpi .sgt arg14 c0_i32_40
  let v43 : BitVec 32 := Scalar.extui v42
  let c0_i32_41 : BitVec 32 := 0#32
  let v44 : BitVec 1 := Scalar.cmpi .ne v43 c0_i32_41
  v44

def k1_off24 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_56 : BitVec 32 := 0#32
  ![v2.toNat, 0]
@[reducible] def k1_t3_loop : Scf.Loop 32 :=
  let c0_i32_43 : BitVec 32 := 0#32
  let c32_i32_44 : BitVec 32 := 32#32
  let v45 : BitVec 32 := Scalar.addi c0_i32_43 c32_i32_44
  let c1_i32_45 : BitVec 32 := 1#32
  ⟨c0_i32_43, v45, c1_i32_45⟩
def k1_off25 (k1_t3 : Fin k1_t3_loop.trips) : Fin 2 → Nat :=
  let c4_i32_56 : BitVec 32 := 4#32
  let c0_i32_43 : BitVec 32 := 0#32
  let c1_i32_45 : BitVec 32 := 1#32
  let arg16 : BitVec 32 := Scf.iv c0_i32_43 c1_i32_45 k1_t3
  let v56 : BitVec 32 := Scalar.muli c4_i32_56 arg16
  let v57 : Index := Scalar.indexCast v56
  let c0 : Index := 0#32
  ![v57.toNat, 0]
def k1_off26 (k1_t3 : Fin k1_t3_loop.trips) (c1_i32_58 : BitVec 32) : Fin 2 → Nat :=
  let c4_i32_57 : BitVec 32 := 4#32
  let c0_i32_43 : BitVec 32 := 0#32
  let c1_i32_45 : BitVec 32 := 1#32
  let arg16 : BitVec 32 := Scf.iv c0_i32_43 c1_i32_45 k1_t3
  let v60 : BitVec 32 := Scalar.muli c4_i32_57 arg16
  let v61 : BitVec 32 := Scalar.addi v60 c1_i32_58
  let v62 : Index := Scalar.indexCast v61
  let c0_59 : Index := 0#32
  ![v62.toNat, 0]
def k1_off27 (k1_t3 : Fin k1_t3_loop.trips) : Fin 2 → Nat :=
  let c0_i32_43 : BitVec 32 := 0#32
  let c1_i32_45 : BitVec 32 := 1#32
  let arg16 : BitVec 32 := Scf.iv c0_i32_43 c1_i32_45 k1_t3
  let v78 : Index := Scalar.indexCast arg16
  let c0_65 : Index := 0#32
  ![v78.toNat, 0]
def k1_off28 (k1_t3 : Fin k1_t3_loop.trips) : Fin 2 → Nat :=
  let c4_i32_66 : BitVec 32 := 4#32
  let c0_i32_43 : BitVec 32 := 0#32
  let c1_i32_45 : BitVec 32 := 1#32
  let arg16 : BitVec 32 := Scf.iv c0_i32_43 c1_i32_45 k1_t3
  let v82 : BitVec 32 := Scalar.muli c4_i32_66 arg16
  let v83 : Index := Scalar.indexCast v82
  let c16 : Index := 16#32
  ![v83.toNat, 16]
def k1_off29 (k1_t3 : Fin k1_t3_loop.trips) (c1_i32_68 : BitVec 32) : Fin 2 → Nat :=
  let c4_i32_67 : BitVec 32 := 4#32
  let c0_i32_43 : BitVec 32 := 0#32
  let c1_i32_45 : BitVec 32 := 1#32
  let arg16 : BitVec 32 := Scf.iv c0_i32_43 c1_i32_45 k1_t3
  let v86 : BitVec 32 := Scalar.muli c4_i32_67 arg16
  let v87 : BitVec 32 := Scalar.addi v86 c1_i32_68
  let v88 : Index := Scalar.indexCast v87
  let c16_69 : Index := 16#32
  ![v88.toNat, 16]
def k1_off30 (k1_t3 : Fin k1_t3_loop.trips) : Fin 2 → Nat :=
  let c0_i32_43 : BitVec 32 := 0#32
  let c1_i32_45 : BitVec 32 := 1#32
  let arg16 : BitVec 32 := Scf.iv c0_i32_43 c1_i32_45 k1_t3
  let v104 : Index := Scalar.indexCast arg16
  let c16_76 : Index := 16#32
  ![v104.toNat, 16]
def k1_off31 (k1_t3 : Fin k1_t3_loop.trips) : Fin 2 → Nat :=
  let c4_i32_77 : BitVec 32 := 4#32
  let c0_i32_43 : BitVec 32 := 0#32
  let c1_i32_45 : BitVec 32 := 1#32
  let arg16 : BitVec 32 := Scf.iv c0_i32_43 c1_i32_45 k1_t3
  let v108 : BitVec 32 := Scalar.muli c4_i32_77 arg16
  let v109 : Index := Scalar.indexCast v108
  let c32 : Index := 32#32
  ![v109.toNat, 32]
def k1_off32 (k1_t3 : Fin k1_t3_loop.trips) (c1_i32_79 : BitVec 32) : Fin 2 → Nat :=
  let c4_i32_78 : BitVec 32 := 4#32
  let c0_i32_43 : BitVec 32 := 0#32
  let c1_i32_45 : BitVec 32 := 1#32
  let arg16 : BitVec 32 := Scf.iv c0_i32_43 c1_i32_45 k1_t3
  let v112 : BitVec 32 := Scalar.muli c4_i32_78 arg16
  let v113 : BitVec 32 := Scalar.addi v112 c1_i32_79
  let v114 : Index := Scalar.indexCast v113
  let c32_80 : Index := 32#32
  ![v114.toNat, 32]
def k1_off33 (k1_t3 : Fin k1_t3_loop.trips) : Fin 2 → Nat :=
  let c0_i32_43 : BitVec 32 := 0#32
  let c1_i32_45 : BitVec 32 := 1#32
  let arg16 : BitVec 32 := Scf.iv c0_i32_43 c1_i32_45 k1_t3
  let v130 : Index := Scalar.indexCast arg16
  let c32_87 : Index := 32#32
  ![v130.toNat, 32]
def k1_off34 (k1_t3 : Fin k1_t3_loop.trips) : Fin 2 → Nat :=
  let c4_i32_88 : BitVec 32 := 4#32
  let c0_i32_43 : BitVec 32 := 0#32
  let c1_i32_45 : BitVec 32 := 1#32
  let arg16 : BitVec 32 := Scf.iv c0_i32_43 c1_i32_45 k1_t3
  let v134 : BitVec 32 := Scalar.muli c4_i32_88 arg16
  let v135 : Index := Scalar.indexCast v134
  let c48 : Index := 48#32
  ![v135.toNat, 48]
def k1_off35 (k1_t3 : Fin k1_t3_loop.trips) (c1_i32_90 : BitVec 32) : Fin 2 → Nat :=
  let c4_i32_89 : BitVec 32 := 4#32
  let c0_i32_43 : BitVec 32 := 0#32
  let c1_i32_45 : BitVec 32 := 1#32
  let arg16 : BitVec 32 := Scf.iv c0_i32_43 c1_i32_45 k1_t3
  let v138 : BitVec 32 := Scalar.muli c4_i32_89 arg16
  let v139 : BitVec 32 := Scalar.addi v138 c1_i32_90
  let v140 : Index := Scalar.indexCast v139
  let c48_91 : Index := 48#32
  ![v140.toNat, 48]
def k1_off36 (k1_t3 : Fin k1_t3_loop.trips) : Fin 2 → Nat :=
  let c0_i32_43 : BitVec 32 := 0#32
  let c1_i32_45 : BitVec 32 := 1#32
  let arg16 : BitVec 32 := Scf.iv c0_i32_43 c1_i32_45 k1_t3
  let v156 : Index := Scalar.indexCast arg16
  let c48_98 : Index := 48#32
  ![v156.toNat, 48]
def k1_off37 (k1_t3 : Fin k1_t3_loop.trips) : Fin 2 → Nat :=
  let c4_i32_99 : BitVec 32 := 4#32
  let c0_i32_43 : BitVec 32 := 0#32
  let c1_i32_45 : BitVec 32 := 1#32
  let arg16 : BitVec 32 := Scf.iv c0_i32_43 c1_i32_45 k1_t3
  let v160 : BitVec 32 := Scalar.muli c4_i32_99 arg16
  let v161 : Index := Scalar.indexCast v160
  let c64 : Index := 64#32
  ![v161.toNat, 64]
def k1_off38 (k1_t3 : Fin k1_t3_loop.trips) (c1_i32_101 : BitVec 32) : Fin 2 → Nat :=
  let c4_i32_100 : BitVec 32 := 4#32
  let c0_i32_43 : BitVec 32 := 0#32
  let c1_i32_45 : BitVec 32 := 1#32
  let arg16 : BitVec 32 := Scf.iv c0_i32_43 c1_i32_45 k1_t3
  let v164 : BitVec 32 := Scalar.muli c4_i32_100 arg16
  let v165 : BitVec 32 := Scalar.addi v164 c1_i32_101
  let v166 : Index := Scalar.indexCast v165
  let c64_102 : Index := 64#32
  ![v166.toNat, 64]
def k1_off39 (k1_t3 : Fin k1_t3_loop.trips) : Fin 2 → Nat :=
  let c0_i32_43 : BitVec 32 := 0#32
  let c1_i32_45 : BitVec 32 := 1#32
  let arg16 : BitVec 32 := Scf.iv c0_i32_43 c1_i32_45 k1_t3
  let v182 : Index := Scalar.indexCast arg16
  let c64_109 : Index := 64#32
  ![v182.toNat, 64]
def k1_off40 (k1_t3 : Fin k1_t3_loop.trips) : Fin 2 → Nat :=
  let c4_i32_110 : BitVec 32 := 4#32
  let c0_i32_43 : BitVec 32 := 0#32
  let c1_i32_45 : BitVec 32 := 1#32
  let arg16 : BitVec 32 := Scf.iv c0_i32_43 c1_i32_45 k1_t3
  let v186 : BitVec 32 := Scalar.muli c4_i32_110 arg16
  let v187 : Index := Scalar.indexCast v186
  let c80 : Index := 80#32
  ![v187.toNat, 80]
def k1_off41 (k1_t3 : Fin k1_t3_loop.trips) (c1_i32_112 : BitVec 32) : Fin 2 → Nat :=
  let c4_i32_111 : BitVec 32 := 4#32
  let c0_i32_43 : BitVec 32 := 0#32
  let c1_i32_45 : BitVec 32 := 1#32
  let arg16 : BitVec 32 := Scf.iv c0_i32_43 c1_i32_45 k1_t3
  let v190 : BitVec 32 := Scalar.muli c4_i32_111 arg16
  let v191 : BitVec 32 := Scalar.addi v190 c1_i32_112
  let v192 : Index := Scalar.indexCast v191
  let c80_113 : Index := 80#32
  ![v192.toNat, 80]
def k1_off42 (k1_t3 : Fin k1_t3_loop.trips) : Fin 2 → Nat :=
  let c0_i32_43 : BitVec 32 := 0#32
  let c1_i32_45 : BitVec 32 := 1#32
  let arg16 : BitVec 32 := Scf.iv c0_i32_43 c1_i32_45 k1_t3
  let v208 : Index := Scalar.indexCast arg16
  let c80_120 : Index := 80#32
  ![v208.toNat, 80]
def k1_off43 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_9 : BitVec 32 := 0#32
  ![v2.toNat, 0]
abbrev grid2 : Pipeline.Grid := ⟨1, ![32], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage2_0 : Fin 2 → Memref sig .tc .vmem S8x256x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S96x8x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨1, ![64], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S96x8x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8x512x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev grid4 : Pipeline.Grid := ⟨2, ![2, 16], ![false, false]⟩

def k4_off1 (i : grid4.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c4_i32 : BitVec 32 := 4#32
  let v3 : BitVec 32 := Scalar.muli v2 c4_i32
  ![v3.toNat]
@[reducible] def k4_t1_loop : Scf.Loop 32 :=
  let c0_i32_5 : BitVec 32 := 0#32
  let c32_i32 : BitVec 32 := 32#32
  let v8 : BitVec 32 := Scalar.addi c0_i32_5 c32_i32
  let c1_i32 : BitVec 32 := 1#32
  ⟨c0_i32_5, v8, c1_i32⟩
def k4_off2 (k4_t1 : Fin k4_t1_loop.trips) (c0_i32_17 : BitVec 32) : Fin 1 → Nat :=
  let c2_i32_16 : BitVec 32 := 2#32
  let c0_i32_5 : BitVec 32 := 0#32
  let c1_i32 : BitVec 32 := 1#32
  let arg14 : BitVec 32 := Scf.iv c0_i32_5 c1_i32 k4_t1
  let v18 : BitVec 32 := Scalar.muli c2_i32_16 arg14
  let v19 : BitVec 32 := Scalar.addi v18 c0_i32_17
  let c128_i32_18 : BitVec 32 := 128#32
  let v20 : BitVec 32 := Scalar.muli v19 c128_i32_18
  ![v20.toNat]
def k4_cond1 (k4_t1 : Fin k4_t1_loop.trips) : BitVec 1 :=
  let c0_i32_5 : BitVec 32 := 0#32
  let c1_i32 : BitVec 32 := 1#32
  let arg14 : BitVec 32 := Scf.iv c0_i32_5 c1_i32 k4_t1
  let c0_i32_21 : BitVec 32 := 0#32
  let v23 : BitVec 1 := Scalar.cmpi .sgt arg14 c0_i32_21
  let v24 : BitVec 32 := Scalar.extui v23
  let c0_i32_22 : BitVec 32 := 0#32
  let v25 : BitVec 1 := Scalar.cmpi .ne v24 c0_i32_22
  v25

def k4_off3 (i : grid4.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_56 : BitVec 32 := 0#32
  ![v2.toNat, 0]
@[reducible] def k4_t2_loop : Scf.Loop 32 :=
  let c0_i32_24 : BitVec 32 := 0#32
  let c32_i32_25 : BitVec 32 := 32#32
  let v26 : BitVec 32 := Scalar.addi c0_i32_24 c32_i32_25
  let c1_i32_26 : BitVec 32 := 1#32
  ⟨c0_i32_24, v26, c1_i32_26⟩
def k4_off4 (k4_t2 : Fin k4_t2_loop.trips) : Fin 2 → Nat :=
  let c4_i32_56 : BitVec 32 := 4#32
  let c0_i32_24 : BitVec 32 := 0#32
  let c1_i32_26 : BitVec 32 := 1#32
  let arg16 : BitVec 32 := Scf.iv c0_i32_24 c1_i32_26 k4_t2
  let v56 : BitVec 32 := Scalar.muli c4_i32_56 arg16
  let v57 : Index := Scalar.indexCast v56
  let c0 : Index := 0#32
  ![v57.toNat, 0]
def k4_off5 (k4_t2 : Fin k4_t2_loop.trips) (c1_i32_58 : BitVec 32) : Fin 2 → Nat :=
  let c4_i32_57 : BitVec 32 := 4#32
  let c0_i32_24 : BitVec 32 := 0#32
  let c1_i32_26 : BitVec 32 := 1#32
  let arg16 : BitVec 32 := Scf.iv c0_i32_24 c1_i32_26 k4_t2
  let v60 : BitVec 32 := Scalar.muli c4_i32_57 arg16
  let v61 : BitVec 32 := Scalar.addi v60 c1_i32_58
  let v62 : Index := Scalar.indexCast v61
  let c0_59 : Index := 0#32
  ![v62.toNat, 0]
def k4_off6 (k4_t2 : Fin k4_t2_loop.trips) : Fin 2 → Nat :=
  let c0_i32_24 : BitVec 32 := 0#32
  let c1_i32_26 : BitVec 32 := 1#32
  let arg16 : BitVec 32 := Scf.iv c0_i32_24 c1_i32_26 k4_t2
  let v78 : Index := Scalar.indexCast arg16
  let c0_65 : Index := 0#32
  ![v78.toNat, 0]
def k4_off7 (k4_t2 : Fin k4_t2_loop.trips) : Fin 2 → Nat :=
  let c4_i32_66 : BitVec 32 := 4#32
  let c0_i32_24 : BitVec 32 := 0#32
  let c1_i32_26 : BitVec 32 := 1#32
  let arg16 : BitVec 32 := Scf.iv c0_i32_24 c1_i32_26 k4_t2
  let v82 : BitVec 32 := Scalar.muli c4_i32_66 arg16
  let v83 : Index := Scalar.indexCast v82
  let c16 : Index := 16#32
  ![v83.toNat, 16]
def k4_off8 (k4_t2 : Fin k4_t2_loop.trips) (c1_i32_68 : BitVec 32) : Fin 2 → Nat :=
  let c4_i32_67 : BitVec 32 := 4#32
  let c0_i32_24 : BitVec 32 := 0#32
  let c1_i32_26 : BitVec 32 := 1#32
  let arg16 : BitVec 32 := Scf.iv c0_i32_24 c1_i32_26 k4_t2
  let v86 : BitVec 32 := Scalar.muli c4_i32_67 arg16
  let v87 : BitVec 32 := Scalar.addi v86 c1_i32_68
  let v88 : Index := Scalar.indexCast v87
  let c16_69 : Index := 16#32
  ![v88.toNat, 16]
def k4_off9 (k4_t2 : Fin k4_t2_loop.trips) : Fin 2 → Nat :=
  let c0_i32_24 : BitVec 32 := 0#32
  let c1_i32_26 : BitVec 32 := 1#32
  let arg16 : BitVec 32 := Scf.iv c0_i32_24 c1_i32_26 k4_t2
  let v104 : Index := Scalar.indexCast arg16
  let c16_76 : Index := 16#32
  ![v104.toNat, 16]
def k4_off10 (k4_t2 : Fin k4_t2_loop.trips) : Fin 2 → Nat :=
  let c4_i32_77 : BitVec 32 := 4#32
  let c0_i32_24 : BitVec 32 := 0#32
  let c1_i32_26 : BitVec 32 := 1#32
  let arg16 : BitVec 32 := Scf.iv c0_i32_24 c1_i32_26 k4_t2
  let v108 : BitVec 32 := Scalar.muli c4_i32_77 arg16
  let v109 : Index := Scalar.indexCast v108
  let c32 : Index := 32#32
  ![v109.toNat, 32]
def k4_off11 (k4_t2 : Fin k4_t2_loop.trips) (c1_i32_79 : BitVec 32) : Fin 2 → Nat :=
  let c4_i32_78 : BitVec 32 := 4#32
  let c0_i32_24 : BitVec 32 := 0#32
  let c1_i32_26 : BitVec 32 := 1#32
  let arg16 : BitVec 32 := Scf.iv c0_i32_24 c1_i32_26 k4_t2
  let v112 : BitVec 32 := Scalar.muli c4_i32_78 arg16
  let v113 : BitVec 32 := Scalar.addi v112 c1_i32_79
  let v114 : Index := Scalar.indexCast v113
  let c32_80 : Index := 32#32
  ![v114.toNat, 32]
def k4_off12 (k4_t2 : Fin k4_t2_loop.trips) : Fin 2 → Nat :=
  let c0_i32_24 : BitVec 32 := 0#32
  let c1_i32_26 : BitVec 32 := 1#32
  let arg16 : BitVec 32 := Scf.iv c0_i32_24 c1_i32_26 k4_t2
  let v130 : Index := Scalar.indexCast arg16
  let c32_87 : Index := 32#32
  ![v130.toNat, 32]
def k4_off13 (k4_t2 : Fin k4_t2_loop.trips) : Fin 2 → Nat :=
  let c4_i32_88 : BitVec 32 := 4#32
  let c0_i32_24 : BitVec 32 := 0#32
  let c1_i32_26 : BitVec 32 := 1#32
  let arg16 : BitVec 32 := Scf.iv c0_i32_24 c1_i32_26 k4_t2
  let v134 : BitVec 32 := Scalar.muli c4_i32_88 arg16
  let v135 : Index := Scalar.indexCast v134
  let c48 : Index := 48#32
  ![v135.toNat, 48]
def k4_off14 (k4_t2 : Fin k4_t2_loop.trips) (c1_i32_90 : BitVec 32) : Fin 2 → Nat :=
  let c4_i32_89 : BitVec 32 := 4#32
  let c0_i32_24 : BitVec 32 := 0#32
  let c1_i32_26 : BitVec 32 := 1#32
  let arg16 : BitVec 32 := Scf.iv c0_i32_24 c1_i32_26 k4_t2
  let v138 : BitVec 32 := Scalar.muli c4_i32_89 arg16
  let v139 : BitVec 32 := Scalar.addi v138 c1_i32_90
  let v140 : Index := Scalar.indexCast v139
  let c48_91 : Index := 48#32
  ![v140.toNat, 48]
def k4_off15 (k4_t2 : Fin k4_t2_loop.trips) : Fin 2 → Nat :=
  let c0_i32_24 : BitVec 32 := 0#32
  let c1_i32_26 : BitVec 32 := 1#32
  let arg16 : BitVec 32 := Scf.iv c0_i32_24 c1_i32_26 k4_t2
  let v156 : Index := Scalar.indexCast arg16
  let c48_98 : Index := 48#32
  ![v156.toNat, 48]
def k4_off16 (k4_t2 : Fin k4_t2_loop.trips) : Fin 2 → Nat :=
  let c4_i32_99 : BitVec 32 := 4#32
  let c0_i32_24 : BitVec 32 := 0#32
  let c1_i32_26 : BitVec 32 := 1#32
  let arg16 : BitVec 32 := Scf.iv c0_i32_24 c1_i32_26 k4_t2
  let v160 : BitVec 32 := Scalar.muli c4_i32_99 arg16
  let v161 : Index := Scalar.indexCast v160
  let c64 : Index := 64#32
  ![v161.toNat, 64]
def k4_off17 (k4_t2 : Fin k4_t2_loop.trips) (c1_i32_101 : BitVec 32) : Fin 2 → Nat :=
  let c4_i32_100 : BitVec 32 := 4#32
  let c0_i32_24 : BitVec 32 := 0#32
  let c1_i32_26 : BitVec 32 := 1#32
  let arg16 : BitVec 32 := Scf.iv c0_i32_24 c1_i32_26 k4_t2
  let v164 : BitVec 32 := Scalar.muli c4_i32_100 arg16
  let v165 : BitVec 32 := Scalar.addi v164 c1_i32_101
  let v166 : Index := Scalar.indexCast v165
  let c64_102 : Index := 64#32
  ![v166.toNat, 64]
def k4_off18 (k4_t2 : Fin k4_t2_loop.trips) : Fin 2 → Nat :=
  let c0_i32_24 : BitVec 32 := 0#32
  let c1_i32_26 : BitVec 32 := 1#32
  let arg16 : BitVec 32 := Scf.iv c0_i32_24 c1_i32_26 k4_t2
  let v182 : Index := Scalar.indexCast arg16
  let c64_109 : Index := 64#32
  ![v182.toNat, 64]
def k4_off19 (k4_t2 : Fin k4_t2_loop.trips) : Fin 2 → Nat :=
  let c4_i32_110 : BitVec 32 := 4#32
  let c0_i32_24 : BitVec 32 := 0#32
  let c1_i32_26 : BitVec 32 := 1#32
  let arg16 : BitVec 32 := Scf.iv c0_i32_24 c1_i32_26 k4_t2
  let v186 : BitVec 32 := Scalar.muli c4_i32_110 arg16
  let v187 : Index := Scalar.indexCast v186
  let c80 : Index := 80#32
  ![v187.toNat, 80]
def k4_off20 (k4_t2 : Fin k4_t2_loop.trips) (c1_i32_112 : BitVec 32) : Fin 2 → Nat :=
  let c4_i32_111 : BitVec 32 := 4#32
  let c0_i32_24 : BitVec 32 := 0#32
  let c1_i32_26 : BitVec 32 := 1#32
  let arg16 : BitVec 32 := Scf.iv c0_i32_24 c1_i32_26 k4_t2
  let v190 : BitVec 32 := Scalar.muli c4_i32_111 arg16
  let v191 : BitVec 32 := Scalar.addi v190 c1_i32_112
  let v192 : Index := Scalar.indexCast v191
  let c80_113 : Index := 80#32
  ![v192.toNat, 80]
def k4_off21 (k4_t2 : Fin k4_t2_loop.trips) : Fin 2 → Nat :=
  let c0_i32_24 : BitVec 32 := 0#32
  let c1_i32_26 : BitVec 32 := 1#32
  let arg16 : BitVec 32 := Scf.iv c0_i32_24 c1_i32_26 k4_t2
  let v208 : Index := Scalar.indexCast arg16
  let c80_120 : Index := 80#32
  ![v208.toNat, 80]
def k4_off22 (i : grid4.Coords) (k4_t1 : Fin k4_t1_loop.trips) (c0_i32_17 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c2_i32_16 : BitVec 32 := 2#32
  let c0_i32_5 : BitVec 32 := 0#32
  let c1_i32 : BitVec 32 := 1#32
  let arg14 : BitVec 32 := Scf.iv c0_i32_5 c1_i32 k4_t1
  let v18 : BitVec 32 := Scalar.muli c2_i32_16 arg14
  let v19 : BitVec 32 := Scalar.addi v18 c0_i32_17
  let c32_i32_28 : BitVec 32 := 32#32
  let v28 : BitVec 32 := Scalar.muli v19 c32_i32_28
  let v29 : BitVec 32 := Scalar.addi v2 v28
  let c0_i32_29 : BitVec 32 := 0#32
  ![v29.toNat, 0]
def k4_off23 (k4_t1 : Fin k4_t1_loop.trips) (c0_i32_17 : BitVec 32) : Fin 1 → Nat :=
  let c2_i32_16 : BitVec 32 := 2#32
  let c0_i32_5 : BitVec 32 := 0#32
  let c1_i32 : BitVec 32 := 1#32
  let arg14 : BitVec 32 := Scf.iv c0_i32_5 c1_i32 k4_t1
  let v18 : BitVec 32 := Scalar.muli c2_i32_16 arg14
  let v19 : BitVec 32 := Scalar.addi v18 c0_i32_17
  let c2_i32_31 : BitVec 32 := 2#32
  let v32 : BitVec 32 := Scalar.addi v19 c2_i32_31
  let c63_i32 : BitVec 32 := 63#32
  let v33 : BitVec 32 := Scalar.minsi v32 c63_i32
  let c128_i32_32 : BitVec 32 := 128#32
  let v34 : BitVec 32 := Scalar.muli v33 c128_i32_32
  ![v34.toNat]
def k4_cond2 (k4_t1 : Fin k4_t1_loop.trips) : BitVec 1 :=
  let c0_i32_5 : BitVec 32 := 0#32
  let c1_i32 : BitVec 32 := 1#32
  let arg14 : BitVec 32 := Scf.iv c0_i32_5 c1_i32 k4_t1
  let c0_i32_40 : BitVec 32 := 0#32
  let v42 : BitVec 1 := Scalar.cmpi .sgt arg14 c0_i32_40
  let v43 : BitVec 32 := Scalar.extui v42
  let c0_i32_41 : BitVec 32 := 0#32
  let v44 : BitVec 1 := Scalar.cmpi .ne v43 c0_i32_41
  v44

def k4_off24 (i : grid4.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_56 : BitVec 32 := 0#32
  ![v2.toNat, 0]
@[reducible] def k4_t3_loop : Scf.Loop 32 :=
  let c0_i32_43 : BitVec 32 := 0#32
  let c32_i32_44 : BitVec 32 := 32#32
  let v45 : BitVec 32 := Scalar.addi c0_i32_43 c32_i32_44
  let c1_i32_45 : BitVec 32 := 1#32
  ⟨c0_i32_43, v45, c1_i32_45⟩
def k4_off25 (k4_t3 : Fin k4_t3_loop.trips) : Fin 2 → Nat :=
  let c4_i32_56 : BitVec 32 := 4#32
  let c0_i32_43 : BitVec 32 := 0#32
  let c1_i32_45 : BitVec 32 := 1#32
  let arg16 : BitVec 32 := Scf.iv c0_i32_43 c1_i32_45 k4_t3
  let v56 : BitVec 32 := Scalar.muli c4_i32_56 arg16
  let v57 : Index := Scalar.indexCast v56
  let c0 : Index := 0#32
  ![v57.toNat, 0]
def k4_off26 (k4_t3 : Fin k4_t3_loop.trips) (c1_i32_58 : BitVec 32) : Fin 2 → Nat :=
  let c4_i32_57 : BitVec 32 := 4#32
  let c0_i32_43 : BitVec 32 := 0#32
  let c1_i32_45 : BitVec 32 := 1#32
  let arg16 : BitVec 32 := Scf.iv c0_i32_43 c1_i32_45 k4_t3
  let v60 : BitVec 32 := Scalar.muli c4_i32_57 arg16
  let v61 : BitVec 32 := Scalar.addi v60 c1_i32_58
  let v62 : Index := Scalar.indexCast v61
  let c0_59 : Index := 0#32
  ![v62.toNat, 0]
def k4_off27 (k4_t3 : Fin k4_t3_loop.trips) : Fin 2 → Nat :=
  let c0_i32_43 : BitVec 32 := 0#32
  let c1_i32_45 : BitVec 32 := 1#32
  let arg16 : BitVec 32 := Scf.iv c0_i32_43 c1_i32_45 k4_t3
  let v78 : Index := Scalar.indexCast arg16
  let c0_65 : Index := 0#32
  ![v78.toNat, 0]
def k4_off28 (k4_t3 : Fin k4_t3_loop.trips) : Fin 2 → Nat :=
  let c4_i32_66 : BitVec 32 := 4#32
  let c0_i32_43 : BitVec 32 := 0#32
  let c1_i32_45 : BitVec 32 := 1#32
  let arg16 : BitVec 32 := Scf.iv c0_i32_43 c1_i32_45 k4_t3
  let v82 : BitVec 32 := Scalar.muli c4_i32_66 arg16
  let v83 : Index := Scalar.indexCast v82
  let c16 : Index := 16#32
  ![v83.toNat, 16]
def k4_off29 (k4_t3 : Fin k4_t3_loop.trips) (c1_i32_68 : BitVec 32) : Fin 2 → Nat :=
  let c4_i32_67 : BitVec 32 := 4#32
  let c0_i32_43 : BitVec 32 := 0#32
  let c1_i32_45 : BitVec 32 := 1#32
  let arg16 : BitVec 32 := Scf.iv c0_i32_43 c1_i32_45 k4_t3
  let v86 : BitVec 32 := Scalar.muli c4_i32_67 arg16
  let v87 : BitVec 32 := Scalar.addi v86 c1_i32_68
  let v88 : Index := Scalar.indexCast v87
  let c16_69 : Index := 16#32
  ![v88.toNat, 16]
def k4_off30 (k4_t3 : Fin k4_t3_loop.trips) : Fin 2 → Nat :=
  let c0_i32_43 : BitVec 32 := 0#32
  let c1_i32_45 : BitVec 32 := 1#32
  let arg16 : BitVec 32 := Scf.iv c0_i32_43 c1_i32_45 k4_t3
  let v104 : Index := Scalar.indexCast arg16
  let c16_76 : Index := 16#32
  ![v104.toNat, 16]
def k4_off31 (k4_t3 : Fin k4_t3_loop.trips) : Fin 2 → Nat :=
  let c4_i32_77 : BitVec 32 := 4#32
  let c0_i32_43 : BitVec 32 := 0#32
  let c1_i32_45 : BitVec 32 := 1#32
  let arg16 : BitVec 32 := Scf.iv c0_i32_43 c1_i32_45 k4_t3
  let v108 : BitVec 32 := Scalar.muli c4_i32_77 arg16
  let v109 : Index := Scalar.indexCast v108
  let c32 : Index := 32#32
  ![v109.toNat, 32]
def k4_off32 (k4_t3 : Fin k4_t3_loop.trips) (c1_i32_79 : BitVec 32) : Fin 2 → Nat :=
  let c4_i32_78 : BitVec 32 := 4#32
  let c0_i32_43 : BitVec 32 := 0#32
  let c1_i32_45 : BitVec 32 := 1#32
  let arg16 : BitVec 32 := Scf.iv c0_i32_43 c1_i32_45 k4_t3
  let v112 : BitVec 32 := Scalar.muli c4_i32_78 arg16
  let v113 : BitVec 32 := Scalar.addi v112 c1_i32_79
  let v114 : Index := Scalar.indexCast v113
  let c32_80 : Index := 32#32
  ![v114.toNat, 32]
def k4_off33 (k4_t3 : Fin k4_t3_loop.trips) : Fin 2 → Nat :=
  let c0_i32_43 : BitVec 32 := 0#32
  let c1_i32_45 : BitVec 32 := 1#32
  let arg16 : BitVec 32 := Scf.iv c0_i32_43 c1_i32_45 k4_t3
  let v130 : Index := Scalar.indexCast arg16
  let c32_87 : Index := 32#32
  ![v130.toNat, 32]
def k4_off34 (k4_t3 : Fin k4_t3_loop.trips) : Fin 2 → Nat :=
  let c4_i32_88 : BitVec 32 := 4#32
  let c0_i32_43 : BitVec 32 := 0#32
  let c1_i32_45 : BitVec 32 := 1#32
  let arg16 : BitVec 32 := Scf.iv c0_i32_43 c1_i32_45 k4_t3
  let v134 : BitVec 32 := Scalar.muli c4_i32_88 arg16
  let v135 : Index := Scalar.indexCast v134
  let c48 : Index := 48#32
  ![v135.toNat, 48]
def k4_off35 (k4_t3 : Fin k4_t3_loop.trips) (c1_i32_90 : BitVec 32) : Fin 2 → Nat :=
  let c4_i32_89 : BitVec 32 := 4#32
  let c0_i32_43 : BitVec 32 := 0#32
  let c1_i32_45 : BitVec 32 := 1#32
  let arg16 : BitVec 32 := Scf.iv c0_i32_43 c1_i32_45 k4_t3
  let v138 : BitVec 32 := Scalar.muli c4_i32_89 arg16
  let v139 : BitVec 32 := Scalar.addi v138 c1_i32_90
  let v140 : Index := Scalar.indexCast v139
  let c48_91 : Index := 48#32
  ![v140.toNat, 48]
def k4_off36 (k4_t3 : Fin k4_t3_loop.trips) : Fin 2 → Nat :=
  let c0_i32_43 : BitVec 32 := 0#32
  let c1_i32_45 : BitVec 32 := 1#32
  let arg16 : BitVec 32 := Scf.iv c0_i32_43 c1_i32_45 k4_t3
  let v156 : Index := Scalar.indexCast arg16
  let c48_98 : Index := 48#32
  ![v156.toNat, 48]
def k4_off37 (k4_t3 : Fin k4_t3_loop.trips) : Fin 2 → Nat :=
  let c4_i32_99 : BitVec 32 := 4#32
  let c0_i32_43 : BitVec 32 := 0#32
  let c1_i32_45 : BitVec 32 := 1#32
  let arg16 : BitVec 32 := Scf.iv c0_i32_43 c1_i32_45 k4_t3
  let v160 : BitVec 32 := Scalar.muli c4_i32_99 arg16
  let v161 : Index := Scalar.indexCast v160
  let c64 : Index := 64#32
  ![v161.toNat, 64]
def k4_off38 (k4_t3 : Fin k4_t3_loop.trips) (c1_i32_101 : BitVec 32) : Fin 2 → Nat :=
  let c4_i32_100 : BitVec 32 := 4#32
  let c0_i32_43 : BitVec 32 := 0#32
  let c1_i32_45 : BitVec 32 := 1#32
  let arg16 : BitVec 32 := Scf.iv c0_i32_43 c1_i32_45 k4_t3
  let v164 : BitVec 32 := Scalar.muli c4_i32_100 arg16
  let v165 : BitVec 32 := Scalar.addi v164 c1_i32_101
  let v166 : Index := Scalar.indexCast v165
  let c64_102 : Index := 64#32
  ![v166.toNat, 64]
def k4_off39 (k4_t3 : Fin k4_t3_loop.trips) : Fin 2 → Nat :=
  let c0_i32_43 : BitVec 32 := 0#32
  let c1_i32_45 : BitVec 32 := 1#32
  let arg16 : BitVec 32 := Scf.iv c0_i32_43 c1_i32_45 k4_t3
  let v182 : Index := Scalar.indexCast arg16
  let c64_109 : Index := 64#32
  ![v182.toNat, 64]
def k4_off40 (k4_t3 : Fin k4_t3_loop.trips) : Fin 2 → Nat :=
  let c4_i32_110 : BitVec 32 := 4#32
  let c0_i32_43 : BitVec 32 := 0#32
  let c1_i32_45 : BitVec 32 := 1#32
  let arg16 : BitVec 32 := Scf.iv c0_i32_43 c1_i32_45 k4_t3
  let v186 : BitVec 32 := Scalar.muli c4_i32_110 arg16
  let v187 : Index := Scalar.indexCast v186
  let c80 : Index := 80#32
  ![v187.toNat, 80]
def k4_off41 (k4_t3 : Fin k4_t3_loop.trips) (c1_i32_112 : BitVec 32) : Fin 2 → Nat :=
  let c4_i32_111 : BitVec 32 := 4#32
  let c0_i32_43 : BitVec 32 := 0#32
  let c1_i32_45 : BitVec 32 := 1#32
  let arg16 : BitVec 32 := Scf.iv c0_i32_43 c1_i32_45 k4_t3
  let v190 : BitVec 32 := Scalar.muli c4_i32_111 arg16
  let v191 : BitVec 32 := Scalar.addi v190 c1_i32_112
  let v192 : Index := Scalar.indexCast v191
  let c80_113 : Index := 80#32
  ![v192.toNat, 80]
def k4_off42 (k4_t3 : Fin k4_t3_loop.trips) : Fin 2 → Nat :=
  let c0_i32_43 : BitVec 32 := 0#32
  let c1_i32_45 : BitVec 32 := 1#32
  let arg16 : BitVec 32 := Scf.iv c0_i32_43 c1_i32_45 k4_t3
  let v208 : Index := Scalar.indexCast arg16
  let c80_120 : Index := 80#32
  ![v208.toNat, 80]
def k4_off43 (i : grid4.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_9 : BitVec 32 := 0#32
  ![v2.toNat, 0]
abbrev grid5 : Pipeline.Grid := ⟨1, ![32], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage5_0 : Fin 2 → Memref sig .tc .vmem S8x256x96 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S96x8x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S2x96x512x512 : Shape := ⟨4, ![2, 96, 512, 512]⟩
abbrev S256x256x4x2 : Shape := ⟨4, ![256, 256, 4, 2]⟩
abbrev S256x256x4x1 : Shape := ⟨4, ![256, 256, 4, 1]⟩
abbrev S256x256x4 : Shape := ⟨3, ![256, 256, 4]⟩
abbrev S_ : Shape := ⟨0, ![]⟩
abbrev S2x96x262144 : Shape := ⟨3, ![2, 96, 262144]⟩
abbrev S1 : Shape := ⟨1, ![1]⟩
abbrev S1x1x1x1 : Shape := ⟨4, ![1, 1, 1, 1]⟩
abbrev S2x96x256x256x4 : Shape := ⟨5, ![2, 96, 256, 256, 4]⟩
abbrev S2x96x256x256 : Shape := ⟨4, ![2, 96, 256, 256]⟩

abbrev nBuf : Space → Nat
  | .hbm => 54
  | .vmem => 0
  | .smem => 0
  | _ => 0

abbrev bufTy : (tb : Table) → Fin (tcTables nBuf tb) → BufTy
  | .hbm, ⟨0, _⟩ => ⟨S2x96x512x512, .f32⟩
  | .hbm, ⟨1, _⟩ => ⟨S256x256x4x2, .f32⟩
  | .hbm, ⟨2, _⟩ => ⟨S256x256x4x2, .f32⟩
  | .hbm, ⟨3, _⟩ => ⟨S256x256x4x2, .i32⟩
  | .hbm, ⟨4, _⟩ => ⟨S256x256x4x1, .i32⟩
  | .hbm, ⟨5, _⟩ => ⟨S256x256x4, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S256x256x4, .i32⟩
  | .hbm, ⟨10, _⟩ => ⟨S256x256x4, .i32⟩
  | .hbm, ⟨11, _⟩ => ⟨S_, .i32⟩
  | .hbm, ⟨12, _⟩ => ⟨S256x256x4, .i32⟩
  | .hbm, ⟨13, _⟩ => ⟨S256x256x4, .i32⟩
  | .hbm, ⟨14, _⟩ => ⟨S256x256x4x1, .i32⟩
  | .hbm, ⟨15, _⟩ => ⟨S256x256x4, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S256x256x4, .i32⟩
  | .hbm, ⟨20, _⟩ => ⟨S256x256x4, .i32⟩
  | .hbm, ⟨21, _⟩ => ⟨S_, .i32⟩
  | .hbm, ⟨22, _⟩ => ⟨S256x256x4, .i32⟩
  | .hbm, ⟨23, _⟩ => ⟨S256x256x4, .i32⟩
  | .hbm, ⟨24, _⟩ => ⟨S_, .i32⟩
  | .hbm, ⟨25, _⟩ => ⟨S256x256x4, .i32⟩
  | .hbm, ⟨26, _⟩ => ⟨S256x256x4, .i32⟩
  | .hbm, ⟨27, _⟩ => ⟨S256x256x4, .i32⟩
  | .hbm, ⟨28, _⟩ => ⟨S2x96x262144, .f32⟩
  | .hbm, ⟨29, _⟩ => ⟨S_, .i32⟩
  | .hbm, ⟨30, _⟩ => ⟨S256x256x4, .i32⟩
  | .hbm, ⟨31, _⟩ => ⟨S256x256x4, .i1⟩
  | .hbm, ⟨32, _⟩ => ⟨S_, .i32⟩
  | .hbm, ⟨33, _⟩ => ⟨S256x256x4, .i32⟩
  | .hbm, ⟨34, _⟩ => ⟨S256x256x4, .i32⟩
  | .hbm, ⟨35, _⟩ => ⟨S256x256x4, .i32⟩
  | .hbm, ⟨36, _⟩ => ⟨S256x256x4x1, .i32⟩
  | .hbm, ⟨37, _⟩ => ⟨S1, .i32⟩
  | .hbm, ⟨38, _⟩ => ⟨S_, .i32⟩
  | .hbm, ⟨39, _⟩ => ⟨S256x256x4x1, .i32⟩
  | .hbm, ⟨40, _⟩ => ⟨S256x256x4x1, .i1⟩
  | .hbm, ⟨41, _⟩ => ⟨S1x1x1x1, .i32⟩
  | .hbm, ⟨42, _⟩ => ⟨S256x256x4x1, .i32⟩
  | .hbm, ⟨43, _⟩ => ⟨S256x256x4x1, .i1⟩
  | .hbm, ⟨44, _⟩ => ⟨S256x256x4x1, .i1⟩
  | .hbm, ⟨45, _⟩ => ⟨S_, .i1⟩
  | .hbm, ⟨46, _⟩ => ⟨S256x256x4, .i1⟩
  | .hbm, ⟨47, _⟩ => ⟨S2x96x256x256x4, .f32⟩
  | .hbm, ⟨48, _⟩ => ⟨S2x96x256x256x4, .i1⟩
  | .hbm, ⟨49, _⟩ => ⟨S_, .f32⟩
  | .hbm, ⟨50, _⟩ => ⟨S2x96x256x256x4, .f32⟩
  | .hbm, ⟨51, _⟩ => ⟨S2x96x256x256x4, .f32⟩
  | .hbm, ⟨52, _⟩ => ⟨S_, .f32⟩
  | .hbm, ⟨53, _⟩ => ⟨S2x96x256x256, .f32⟩
  | _, _ => ⟨S2x96x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_c_0 : Ref sig .tc := ⟨.hbm, 7, rfl⟩
abbrev main_call1_v0 : Ref sig .tc := ⟨.hbm, 8, rfl⟩
abbrev main_call1_v1 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_c_2 : Ref sig .tc := ⟨.hbm, 17, rfl⟩
abbrev main_call2_v0 : Ref sig .tc := ⟨.hbm, 18, rfl⟩
abbrev main_call2_v1 : Ref sig .tc := ⟨.hbm, 19, rfl⟩
abbrev main_call2_v2 : Ref sig .tc := ⟨.hbm, 20, rfl⟩
abbrev main_call2_v3 : Ref sig .tc := ⟨.hbm, 21, rfl⟩
abbrev main_call2_v4 : Ref sig .tc := ⟨.hbm, 22, rfl⟩
abbrev main_v7 : Ref sig .tc := ⟨.hbm, 23, rfl⟩
abbrev main_c_3 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_call3_c : Ref sig .tc := ⟨.hbm, 29, rfl⟩
abbrev main_call3_v0 : Ref sig .tc := ⟨.hbm, 30, rfl⟩
abbrev main_call3_v1 : Ref sig .tc := ⟨.hbm, 31, rfl⟩
abbrev main_call3_c_0 : Ref sig .tc := ⟨.hbm, 32, rfl⟩
abbrev main_call3_v2 : Ref sig .tc := ⟨.hbm, 33, rfl⟩
abbrev main_call3_v3 : Ref sig .tc := ⟨.hbm, 34, rfl⟩
abbrev main_call3_v4 : Ref sig .tc := ⟨.hbm, 35, rfl⟩
abbrev main_call3_v5 : Ref sig .tc := ⟨.hbm, 36, rfl⟩
abbrev main_call3_c_1 : Ref sig .tc := ⟨.hbm, 37, rfl⟩
abbrev main_call3_c_2 : Ref sig .tc := ⟨.hbm, 38, rfl⟩
abbrev main_call3_v6 : Ref sig .tc := ⟨.hbm, 39, rfl⟩
abbrev main_call3_v7 : Ref sig .tc := ⟨.hbm, 40, rfl⟩
abbrev main_call3_v8 : Ref sig .tc := ⟨.hbm, 41, rfl⟩
abbrev main_call3_v9 : Ref sig .tc := ⟨.hbm, 42, rfl⟩
abbrev main_call3_v10 : Ref sig .tc := ⟨.hbm, 43, rfl⟩
abbrev main_call3_v11 : Ref sig .tc := ⟨.hbm, 44, rfl⟩
abbrev main_call3_c_3 : Ref sig .tc := ⟨.hbm, 45, rfl⟩
abbrev main_call3_v12 : Ref sig .tc := ⟨.hbm, 46, rfl⟩
abbrev main_call3_v13 : Ref sig .tc := ⟨.hbm, 47, rfl⟩
abbrev main_call3_v14 : Ref sig .tc := ⟨.hbm, 48, rfl⟩
abbrev main_call3_cst : Ref sig .tc := ⟨.hbm, 49, rfl⟩
abbrev main_call3_v15 : Ref sig .tc := ⟨.hbm, 50, rfl⟩
abbrev main_v12 : Ref sig .tc := ⟨.hbm, 51, rfl⟩
abbrev main_cst : Ref sig .tc := ⟨.hbm, 52, rfl⟩
abbrev main_v13 : Ref sig .tc := ⟨.hbm, 53, rfl⟩

abbrev nD : Nat := 1
abbrev τ : Topo := Topo.v7x

variable {F : FTy → Type} [FloatOps F]
-- ==== Proof.Setup.lean ====
/-
  The program as the launch theorem reads it, and the resource algebra of the whole proof: the handshakes' rounds, the
  TensorCore pipelines' rounds, and the counters of the transfers' invariants.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Writes
public import Idealize.ShloMosaic.Lib.Pipeline.Value
public import Idealize.ShloMosaic.Lib.VecWindow
public import Idealize.ShloMosaic.Lib.ViewIndex
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

abbrev ΛP : Labels := Pipeline.Sig Λ₀ (Fin 4) fun p => (pcfgs (F := F) p).Adm
abbrev K : SparseCore.Cfg τ sig (ΛP (F := F)) 2 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds. -/
abbrev UH : Type := URounds (GSem nD τ sig) ℕ
/-- The TensorCore pipelines' rounds. -/
abbrev UP : Type := URounds (GSem nD τ sig) Unit
/-- The whole ghost state: both rounds, and the transfers' counters. -/
abbrev UU : Type := UH × (UP × Counters)

end Cert.Proof

end
-- ==== Proof.Rows.lean ====
/-
  One trip of the pooling loops: a row of the result's block from four rows of the gathered chunk, six vectors of
  sixteen columns each; and the whole loop, the chunk pooled.
-/
module
public import proofs.«01_k».proof.Proof.Setup

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 2) (Elt F) ℕ UU ℕ

/-- Row `4 r + j` of a gathered chunk at column `c`, the chunk's columns being 128 and the result's 96. -/
def quadIx (p : S32x96.Idx) (j : Fin 4) : S128x128.Idx := fun
  | 0 => ⟨4 * (p 0).val + j.val, by have h := (p 0).isLt; have h' := j.isLt; change (p 0).val < 32 at h; change _ < 128; omega⟩
  | 1 => ⟨(p 1).val, by have h := (p 1).isLt; change (p 1).val < 96 at h; change _ < 128; omega⟩

/-- The maximum of four values as the kernel takes it. -/
def max4 (a b c d : F .f32) : F .f32 := FloatOps.maximumf (FloatOps.maximumf a b) (FloatOps.maximumf c d)

/-- A gathered chunk pooled: at row `r` and column `c` the maximum of the chunk's rows `4 r … 4 r + 3` there. -/
def pool (g : S128x128.Idx → F .f32) : S32x96.Idx → F .f32 := fun p =>
  max4 (g (quadIx p 0)) (g (quadIx p 1)) (g (quadIx p 2)) (g (quadIx p 3))

/-- Four vectors of sixteen columns, the maximum taken column by column between two changes of shape. -/
def quadPay (a b c d : Vec F S1x16 .f32) : FVec F S1x16 .f32 :=
  shapeCast S1x16 (maximumf (maximumf (shapeCast S16 a shapeCasts_S1x16_S16) (shapeCast S16 b shapeCasts_S1x16_S16))
    (maximumf (shapeCast S16 c shapeCasts_S1x16_S16) (shapeCast S16 d shapeCasts_S1x16_S16))) shapeCasts_S16_S1x16

theorem quadPay_apply (a b c d : Vec F S1x16 .f32) (x : S1x16.Idx) : quadPay a b c d x = max4 (a x) (b x) (c x) (d x) := by
  have e : ∀ v : Vec F S1x16 .f32, shapeCast S16 v shapeCasts_S1x16_S16 (Shape.reshapeEquiv shapeCasts_S16_S1x16 x) = v x := fun v =>
    congrFun (Idealize.ShloMosaic.shapeCast_shapeCast v shapeCasts_S1x16_S16 shapeCasts_S16_S1x16) x
  show max4 (shapeCast S16 a _ _) (shapeCast S16 b _ _) (shapeCast S16 c _ _) (shapeCast S16 d _ _) = _
  rw [e a, e b, e c, e d]

section Pieces
variable {κ : Kind} {sp sp' : Space} (v : View sig κ sp S32x96 .f32) (w : View sig κ sp' S128x128 .f32)

/-- A piece of row `k` at column `c`, holding there what `G` says. -/
structure IsPiece (G : S32x96.Idx → F .f32) (k c : ℕ) (p : View.Piece (Elt F) S32x96 .f32) : Prop where
  mem : ∀ y : S32x96.Idx, y ∈ p.1.set ↔ (y 0).val = k ∧ c ≤ (y 1).val ∧ (y 1).val < c + 16
  val : ∀ x : p.1.shape.Idx, p.2 x = G (p.1.emb x)

/-- The six vectors stored for a row, each the maximum of four rows of the chunk, are pieces of the chunk pooled. -/
theorem isPiece (f : w.ty.Contents (Elt F)) (k c : ℕ) {o o0 o1 o2 o3 : Fin 2 → ℕ}
    (ho : o = ![k, c]) (h0 : o0 = ![4 * k, c]) (h1 : o1 = ![4 * k + 1, c]) (h2 : o2 = ![4 * k + 2, c]) (h3 : o3 = ![4 * k + 3, c])
    (hb : ∀ a, o a + S1x16.size a ≤ S32x96.size a) (hb0 : ∀ a, o0 a + S1x16.size a ≤ S128x128.size a) (hb1 : ∀ a, o1 a + S1x16.size a ≤ S128x128.size a)
    (hb2 : ∀ a, o2 a + S1x16.size a ≤ S128x128.size a) (hb3 : ∀ a, o3 a + S1x16.size a ≤ S128x128.size a) (q : Vec F S1x16 .f32)
    (hq : q = quadPay (w.readAt (Elt F) (Rect.unit (s := S128x128) o0 S1x16.size hb0).toLoadRect f) (w.readAt (Elt F) (Rect.unit (s := S128x128) o1 S1x16.size hb1).toLoadRect f)
      (w.readAt (Elt F) (Rect.unit (s := S128x128) o2 S1x16.size hb2).toLoadRect f) (w.readAt (Elt F) (Rect.unit (s := S128x128) o3 S1x16.size hb3).toLoadRect f)) :
    IsPiece (pool (w.read (Elt F) f)) k c ⟨Rect.unit (s := S32x96) o S1x16.size hb, q⟩ := by
  subst ho h0 h1 h2 h3 hq
  constructor
  · intro y
    rw [Rect.mem_set_unit, Fin.forall_fin_two]
    show (k ≤ (y 0).val ∧ (y 0).val < k + 1) ∧ (c ≤ (y 1).val ∧ (y 1).val < c + 16) ↔ _
    omega
  · intro x
    refine (quadPay_apply _ _ _ _ x).trans ?_
    have e : ∀ (j : Fin 4) (o' : Fin 2 → ℕ) (hb') (ho' : o' = ![4 * k + j.val, c]),
        w.readAt (Elt F) (Rect.unit (s := S128x128) o' S1x16.size hb').toLoadRect f x
          = w.read (Elt F) f (quadIx ((Rect.unit (s := S32x96) ![k, c] S1x16.size hb).emb x) j) := by
      intro j o' hb' ho'
      subst ho'
      rw [View.readAt_apply]
      congr 1
      funext a
      apply Fin.ext
      have hx : (x 0).val < 1 := (x 0).isLt
      match a with
      | 0 => show 4 * k + j.val + 1 * (x 0).val = 4 * (k + 1 * (x 0).val) + j.val; omega
      | 1 => show c + 1 * (x 1).val = c + 1 * (x 1).val; rfl
    unfold pool
    rw [e 0 _ hb0 rfl, e 1 _ hb1 rfl, e 2 _ hb2 rfl, e 3 _ hb3 rfl]

/-- The first `n` rows of the block hold what `G` says. -/
def RowsDone (G : S32x96.Idx → F .f32) (f : v.ty.Contents (Elt F)) (n : ℕ) : Prop :=
  ∀ y : S32x96.Idx, (y 0).val < n → v.read (Elt F) f y = G y

/-- The six pieces of row `n` written, the first `n + 1` rows are done. -/
theorem rows_step {G : S32x96.Idx → F .f32} {f : v.ty.Contents (Elt F)} {n : ℕ} (h : RowsDone v G f n)
    {p0 p1 p2 p3 p4 p5 : View.Piece (Elt F) S32x96 .f32} (h0 : IsPiece G n 0 p0) (h1 : IsPiece G n 16 p1) (h2 : IsPiece G n 32 p2)
    (h3 : IsPiece G n 48 p3) (h4 : IsPiece G n 64 p4) (h5 : IsPiece G n 80 p5) :
    RowsDone v G (v.writes (Elt F) f [p5, p4, p3, p2, p1, p0]) (n + 1) := by
  intro y hy
  have hc : (y 1).val < 96 := (y 1).isLt
  by_cases hn : (y 0).val = n
  · apply View.read_writes_apply_of_pieces
    · simp only [List.mem_cons, List.not_mem_nil, or_false]
      rintro p (rfl | rfl | rfl | rfl | rfl | rfl)
      exacts [h5.val, h4.val, h3.val, h2.val, h1.val, h0.val]
    · simp only [List.mem_cons, List.not_mem_nil, or_false, exists_eq_or_imp, exists_eq_left, h0.mem, h1.mem, h2.mem, h3.mem, h4.mem, h5.mem]
      omega
  · rw [View.read_writes_apply_of_forall_not_mem]
    · exact h y (by omega)
    · simp only [List.mem_cons, List.not_mem_nil, or_false]
      rintro p (rfl | rfl | rfl | rfl | rfl | rfl)
      · rw [h5.mem]; omega
      · rw [h4.mem]; omega
      · rw [h3.mem]; omega
      · rw [h2.mem]; omega
      · rw [h1.mem]; omega
      · rw [h0.mem]; omega

end Pieces

variable (d : Dev nD) (i : grid1.Coords)
/-- The thread of the tile at grid coordinates `i`. -/
abbrev thrV : Thread nD τ := V d ((i 0).castLE hcore1) ((i 1).castLE hsub1)

variable (arg2 : Memref sig .scVector .hbm S262144x128 .f32) (harg2 : arg2.IsWhole) (arg3 : Memref sig .scVector .hbm S262144 .i32) (harg3 : arg3.IsWhole)
  (arg4 : Memref sig .scVector .hbm S65536x96 .f32) (harg4 : arg4.IsWhole) (arg5 : Memref sig .scVector .vmem S8192 .i32) (harg5 : arg5.IsWhole)
  (arg6 : Memref sig .scVector .vmem S128x128 .f32) (harg6 : arg6.IsWhole) (arg7 : Memref sig .scVector .vmem S128x128 .f32) (harg7 : arg7.IsWhole)
  (arg8 : Memref sig .scVector .vmem S32x96 .f32) (harg8 : arg8.IsWhole) (arg9 : Memref sig .scVector .vmem S32x96 .f32) (harg9 : arg9.IsWhole)
  (arg10 : DmaSems sig S_) (arg11 : DmaSems sig S_) (arg12 : DmaSems sig S_) (arg13 : DmaSems sig S_) (v18_r0 : DmaSems sig S_)

/-- What a pooling loop keeps: the chunk as it is, the first `n` rows of the block done. -/
def rowsInv (w : Memref sig .scVector .vmem S128x128 .f32) (v : Memref sig .scVector .vmem S32x96 .f32)
    (f : Buf (Elt F) (w.view.loc (thrV d i))) (n : ℕ) : sProp 𝕄 :=
  iprop(∃ f', (w.view.loc (thrV d i) ↦[w.view.set]{fullShare} f) ∗ (v.view.loc (thrV d i) ↦[v.view.set]{fullShare} f')
    ∗ ⌜RowsDone v.view (pool (w.view.read (Elt F) f)) f' n⌝)

/-- One trip of the pooling loop of the first buffer. -/
theorem t2_trip (v2 c0 c1 : BitVec 32) (t : Fin k1_t1_loop.trips) (k : Fin k1_t2_loop.trips) (acc : BitVec 32)
    (f6 : Buf (Elt F) (arg6.view.loc (thrV d i))) (Q : BitVec 32 → sProp 𝕄) :
    iprop(rowsInv (F := F) d i arg6 arg8 f6 k.val ∗ (∀ r, rowsInv (F := F) d i arg6 arg8 f6 (k.val + 1) -∗ Q r))
    ⊢ wp frame (wpE (defs₀ (F := F)) 𝒱₀ (thrV d i) none) Set.univ
      (k1_t2_body (F := F) i arg2 harg2 arg3 harg3 arg4 harg4 arg5 harg5 arg6 harg6 arg7 harg7 arg8 harg8 arg9 harg9 arg10 arg11 arg12 arg13 v18_r0 v2 c0 c1 t k acc) Q := by
  unfold k1_t2_body rowsInv
  simp only [k1_part1_eq_skeleton, k1_part2_eq_skeleton, k1_part3_eq_skeleton]
  unfold k1_part1_skel k1_part2_skel k1_part3_skel
  iintro ⟨⟨%f8, H6, H8, %hr⟩, Hk⟩
  sl_exec
  sl_step
  iapply Hk
  iexists _
  isplitl [H6]
  · iexact H6
  isplitl [H8]
  · iexact H8
  ipureintro
  exact rows_step _ hr
    (isPiece arg6.view f6 _ 0 (k1_off6_eq k) (k1_off4_eq k) (k1_off5_eq k 0) (k1_off5_eq k 1) (k1_off5_eq k 2) _ _ _ _ _ _ rfl)
    (isPiece arg6.view f6 _ 16 (k1_off9_eq k) (k1_off7_eq k) (k1_off8_eq k 0) (k1_off8_eq k 1) (k1_off8_eq k 2) _ _ _ _ _ _ rfl)
    (isPiece arg6.view f6 _ 32 (k1_off12_eq k) (k1_off10_eq k) (k1_off11_eq k 0) (k1_off11_eq k 1) (k1_off11_eq k 2) _ _ _ _ _ _ rfl)
    (isPiece arg6.view f6 _ 48 (k1_off15_eq k) (k1_off13_eq k) (k1_off14_eq k 0) (k1_off14_eq k 1) (k1_off14_eq k 2) _ _ _ _ _ _ rfl)
    (isPiece arg6.view f6 _ 64 (k1_off18_eq k) (k1_off16_eq k) (k1_off17_eq k 0) (k1_off17_eq k 1) (k1_off17_eq k 2) _ _ _ _ _ _ rfl)
    (isPiece arg6.view f6 _ 80 (k1_off21_eq k) (k1_off19_eq k) (k1_off20_eq k 0) (k1_off20_eq k 1) (k1_off20_eq k 2) _ _ _ _ _ _ rfl)

/-- The pooling loop of the first buffer: the whole block is the chunk pooled. -/
theorem t2_loop (v2 c0 c1 : BitVec 32) (t : Fin k1_t1_loop.trips) (f6 : Buf (Elt F) (arg6.view.loc (thrV d i))) (f8 : Buf (Elt F) (arg8.view.loc (thrV d i))) (Q : BitVec 32 → sProp 𝕄) :
    iprop((arg6.view.loc (thrV d i) ↦[arg6.view.set]{fullShare} f6) ∗ (arg8.view.loc (thrV d i) ↦[arg8.view.set]{fullShare} f8)
      ∗ (∀ r f8', ((arg6.view.loc (thrV d i) ↦[arg6.view.set]{fullShare} f6) ∗ (arg8.view.loc (thrV d i) ↦[arg8.view.set]{fullShare} f8')
          ∗ ⌜arg8.view.read (Elt F) f8' = pool (arg6.view.read (Elt F) f6)⌝) -∗ Q r))
    ⊢ wp frame (wpE (defs₀ (F := F)) 𝒱₀ (thrV d i) none) Set.univ
      (Scf.Loop.for k1_t2_loop k1_t2_ok 0#32 (k1_t2_body (F := F) i arg2 harg2 arg3 harg3 arg4 harg4 arg5 harg5 arg6 harg6 arg7 harg7 arg8 harg8 arg9 harg9 arg10 arg11 arg12 arg13 v18_r0 v2 c0 c1 t)) Q := by
  iintro ⟨H6, H8, Hk⟩
  sl_for (fun n (_ : BitVec 32) => rowsInv (F := F) d i arg6 arg8 f6 n) $$ [H6 H8 Hk]
  case region =>
    intro k acc
    refine .trans ?_ (t2_trip (F := F) d i arg2 harg2 arg3 harg3 arg4 harg4 arg5 harg5 arg6 harg6 arg7 harg7 arg8 harg8 arg9 harg9 arg10 arg11 arg12 arg13 v18_r0 v2 c0 c1 t k acc f6 _)
    iintro H
    isplitl [H]
    · iexact H
    iintro %r H
    iexact H
  isplitl [H6 H8]
  · unfold rowsInv
    iexists f8
    isplitl [H6]
    · iexact H6
    isplitl [H8]
    · iexact H8
    ipureintro
    intro y hy
    exact absurd hy (Nat.not_lt_zero _)
  iintro %r HI
  unfold rowsInv
  icases HI with ⟨%f8', H6, H8, %hd⟩
  iapply Hk $$ %r %f8'
  isplitl [H6]
  · iexact H6
  isplitl [H8]
  · iexact H8
  ipureintro
  funext y
  exact hd y (y 0).isLt

/-- One trip of the pooling loop of the second buffer. -/
theorem t3_trip (k : Fin k1_t3_loop.trips) (acc : BitVec 32)
    (f6 : Buf (Elt F) (arg7.view.loc (thrV d i))) (Q : BitVec 32 → sProp 𝕄) :
    iprop(rowsInv (F := F) d i arg7 arg9 f6 k.val ∗ (∀ r, rowsInv (F := F) d i arg7 arg9 f6 (k.val + 1) -∗ Q r))
    ⊢ wp frame (wpE (defs₀ (F := F)) 𝒱₀ (thrV d i) none) Set.univ
      (k1_t3_body (F := F) i arg2 harg2 arg3 harg3 arg4 harg4 arg5 harg5 arg6 harg6 arg7 harg7 arg8 harg8 arg9 harg9 arg10 arg11 arg12 arg13 v18_r0 k acc) Q := by
  unfold k1_t3_body rowsInv
  simp only [k1_part4_eq_skeleton, k1_part5_eq_skeleton, k1_part6_eq_skeleton]
  unfold k1_part4_skel k1_part5_skel k1_part6_skel
  iintro ⟨⟨%f8, H6, H8, %hr⟩, Hk⟩
  sl_exec
  sl_step
  iapply Hk
  iexists _
  isplitl [H6]
  · iexact H6
  isplitl [H8]
  · iexact H8
  ipureintro
  exact rows_step _ hr
    (isPiece arg7.view f6 _ 0 (k1_off27_eq k) (k1_off25_eq k) (k1_off26_eq k 0) (k1_off26_eq k 1) (k1_off26_eq k 2) _ _ _ _ _ _ rfl)
    (isPiece arg7.view f6 _ 16 (k1_off30_eq k) (k1_off28_eq k) (k1_off29_eq k 0) (k1_off29_eq k 1) (k1_off29_eq k 2) _ _ _ _ _ _ rfl)
    (isPiece arg7.view f6 _ 32 (k1_off33_eq k) (k1_off31_eq k) (k1_off32_eq k 0) (k1_off32_eq k 1) (k1_off32_eq k 2) _ _ _ _ _ _ rfl)
    (isPiece arg7.view f6 _ 48 (k1_off36_eq k) (k1_off34_eq k) (k1_off35_eq k 0) (k1_off35_eq k 1) (k1_off35_eq k 2) _ _ _ _ _ _ rfl)
    (isPiece arg7.view f6 _ 64 (k1_off39_eq k) (k1_off37_eq k) (k1_off38_eq k 0) (k1_off38_eq k 1) (k1_off38_eq k 2) _ _ _ _ _ _ rfl)
    (isPiece arg7.view f6 _ 80 (k1_off42_eq k) (k1_off40_eq k) (k1_off41_eq k 0) (k1_off41_eq k 1) (k1_off41_eq k 2) _ _ _ _ _ _ rfl)

/-- The pooling loop of the second buffer: the whole block is the chunk pooled. -/
theorem t3_loop (f6 : Buf (Elt F) (arg7.view.loc (thrV d i))) (f8 : Buf (Elt F) (arg9.view.loc (thrV d i))) (Q : BitVec 32 → sProp 𝕄) :
    iprop((arg7.view.loc (thrV d i) ↦[arg7.view.set]{fullShare} f6) ∗ (arg9.view.loc (thrV d i) ↦[arg9.view.set]{fullShare} f8)
      ∗ (∀ r f8', ((arg7.view.loc (thrV d i) ↦[arg7.view.set]{fullShare} f6) ∗ (arg9.view.loc (thrV d i) ↦[arg9.view.set]{fullShare} f8')
          ∗ ⌜arg9.view.read (Elt F) f8' = pool (arg7.view.read (Elt F) f6)⌝) -∗ Q r))
    ⊢ wp frame (wpE (defs₀ (F := F)) 𝒱₀ (thrV d i) none) Set.univ
      (Scf.Loop.for k1_t3_loop k1_t3_ok 0#32 (k1_t3_body (F := F) i arg2 harg2 arg3 harg3 arg4 harg4 arg5 harg5 arg6 harg6 arg7 harg7 arg8 harg8 arg9 harg9 arg10 arg11 arg12 arg13 v18_r0 )) Q := by
  iintro ⟨H6, H8, Hk⟩
  sl_for (fun n (_ : BitVec 32) => rowsInv (F := F) d i arg7 arg9 f6 n) $$ [H6 H8 Hk]
  case region =>
    intro k acc
    refine .trans ?_ (t3_trip (F := F) d i arg2 harg2 arg3 harg3 arg4 harg4 arg5 harg5 arg6 harg6 arg7 harg7 arg8 harg8 arg9 harg9 arg10 arg11 arg12 arg13 v18_r0 k acc f6 _)
    iintro H
    isplitl [H]
    · iexact H
    iintro %r H
    iexact H
  isplitl [H6 H8]
  · unfold rowsInv
    iexists f8
    isplitl [H6]
    · iexact H6
    isplitl [H8]
    · iexact H8
    ipureintro
    intro y hy
    exact absurd hy (Nat.not_lt_zero _)
  iintro %r HI
  unfold rowsInv
  icases HI with ⟨%f8', H6, H8, %hd⟩
  iapply Hk $$ %r %f8'
  isplitl [H6]
  · iexact H6
  isplitl [H8]
  · iexact H8
  ipureintro
  funext y
  exact hd y (y 0).isLt

end Cert.Proof
end
-- ==== Proof.Chunk.lean ====
/-
  The gathers of a tile: a chunk of 128 rows of the table taken at 128 entries of the tile's list, its start and its wait.
-/
module
public import proofs.«01_k».proof.Proof.Rows

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 2) (Elt F) ℕ UU ℕ

/-- The table's element at the row a word names and at column `c`. -/
def rowIx (w : BitVec 32) (c : ℕ) : S262144x128.Idx := fun
  | 0 => ⟨w.toNat % 262144, Nat.mod_lt _ (by decide)⟩
  | 1 => ⟨c % 128, Nat.mod_lt _ (by decide)⟩

/-- The chunk of rows named by the 128 words of `lst` from place `o` on. -/
def chunk (tab : S262144x128.Idx → F .f32) (lst : ℕ → BitVec 32) (o : ℕ) : S128x128.Idx → F .f32 := fun x =>
  tab (rowIx (lst (o + (x 0).val)) (x 1).val)

/-- The whole result: row `r` the maximum of the four table rows named by the words `4 r … 4 r + 3`. -/
def poolAll (tab : S262144x128.Idx → F .f32) (lst : ℕ → BitVec 32) : S65536x96.Idx → F .f32 := fun p =>
  max4 (tab (rowIx (lst (4 * (p 0).val)) (p 1).val)) (tab (rowIx (lst (4 * (p 0).val + 1)) (p 1).val))
    (tab (rowIx (lst (4 * (p 0).val + 2)) (p 1).val)) (tab (rowIx (lst (4 * (p 0).val + 3)) (p 1).val))

/-- A chunk pooled is thirty-two rows of the whole result. -/
theorem pool_chunk (tab : S262144x128.Idx → F .f32) (lst : ℕ → BitVec 32) (o : ℕ) (x : S32x96.Idx) (p : S65536x96.Idx)
    (h0 : 4 * (p 0).val = o + 4 * (x 0).val) (h1 : (p 1).val = (x 1).val) : pool (chunk tab lst o) x = poolAll tab lst p := by
  unfold pool poolAll chunk
  have e : ∀ j : Fin 4, o + (quadIx x j 0).val = 4 * (p 0).val + j.val := fun j => by
    show o + (4 * (x 0).val + j.val) = _; omega
  have e1 : ∀ j : Fin 4, (quadIx x j 1).val = (p 1).val := fun j => h1.symm
  rw [e 0, e 1, e 2, e 3, e1 0, e1 1, e1 2, e1 3]
  rfl

/-- What a tile holds of a transfer in flight, with `R` set aside until the transfer delivers. -/
theorem flight_frame {c : Thread nD τ} {sm : SemLoc sig} {ι : HIx 2} {N : ℕ} {D R : sProp 𝕄} :
    iprop(Transfers.Flight countersEmb c sm ι N D ∗ R) ⊢ (Transfers.Flight countersEmb c sm ι N iprop(D ∗ R) : sProp 𝕄) := by
  unfold Transfers.Flight
  iintro ⟨⟨⟨%X, HX, %hcap, %hpeek⟩, Hcred⟩, HR⟩
  isplitl [HX HR]
  · iexists iprop(X ∗ R)
    isplitl [HX HR]
    · isplitl [HX]
      · iexact HX
      iexact HR
    isplit
    · ipureintro
      intro K
      refine .trans ?_ (hcap K)
      iintro ⟨⟨HX, HR⟩, HK⟩
      isplitl [HX]
      · iexact HX
      iintro ⟨Hv, HD⟩
      iapply HK
      isplitl [Hv]
      · iexact Hv
      isplitl [HD]
      · iexact HD
      iexact HR
    · ipureintro
      intro K
      refine .trans ?_ (hpeek K)
      iintro ⟨⟨HX, HR⟩, HK⟩
      isplitl [HX]
      · iexact HX
      iintro HX
      iapply HK
      isplitl [HX]
      · iexact HX
      iexact HR
  · iexact Hcred

/-- The same, the delivery and what was set aside restated together. -/
theorem flight_frame_mono {c : Thread nD τ} {sm : SemLoc sig} {ι : HIx 2} {N : ℕ} {D R D' : sProp 𝕄} (h : iprop(D ∗ R) ⊢ D') :
    iprop(Transfers.Flight countersEmb c sm ι N D ∗ R) ⊢ (Transfers.Flight countersEmb c sm ι N D' : sProp 𝕄) :=
  flight_frame.trans (Transfers.Flight_mono countersEmb c h)

variable (d : Dev nD) (i : grid1.Coords)

variable (arg2 : Memref sig .scVector .hbm S262144x128 .f32) (arg5 : Memref sig .scVector .vmem S8192 .i32)
  (dst : Memref sig .scVector .vmem S128x128 .f32)

/-- The 128 rows gathered are the chunk. -/
theorem gather_chunk (ft : Buf (Elt F) (arg2.view.loc (thrV d i))) (f5 : Buf (Elt F) (arg5.view.loc (thrV d i)))
    (lst : ℕ → BitVec 32) (B : ℕ) (hl : ∀ x : S8192.Idx, arg5.view.read (Elt F) f5 x = lst (B + (x 0).val))
    (o : Fin 1 → ℕ) (n : ℕ) (ho : o = ![n]) (inb : ∀ a, o a + S128.size a ≤ S8192.size a)
    (hin : ∀ x, ((arg5.slice (Rect.unit (s := S8192) o S128.size inb) (fun _ => rfl)).view.read (Elt F) f5 x).toNat < S262144x128.size gathers_S262144x128_S128x128.axis) :
    SparseCore.gatherPayload gathers_S262144x128_S128x128
      ((arg2.slice (Rect.unit (s := S262144x128) ![0, 0] S262144x128.size inb_S262144x128_S262144x128_0_0) (fun _ => rfl)).view.read (Elt F) ft)
      (SparseCore.rows ((arg5.slice (Rect.unit (s := S8192) o S128.size inb) (fun _ => rfl)).view.read (Elt F) f5) rfl hin)
    = chunk (arg2.view.read (Elt F) ft) lst (B + n) := by
  subst ho
  funext x
  unfold SparseCore.gatherPayload chunk
  show arg2.view.read (Elt F) ft ((Rect.unit (s := S262144x128) ![0, 0] S262144x128.size inb_S262144x128_S262144x128_0_0).emb _) = _
  rw [Rect.emb_unit_full]
  have hk : ((S128.rowMajor.symm ((x 0).cast rfl)) 0).val = (x 0).val := by
    rw [← Shape.rowMajor_val_one, Equiv.apply_symm_apply]; rfl
  have hw : (arg5.slice (Rect.unit (s := S8192) ![n] S128.size inb) (fun _ => rfl)).view.read (Elt F) f5 (S128.rowMajor.symm ((x 0).cast rfl))
      = lst (B + n + (x 0).val) := by
    refine (hl ((Rect.unit (s := S8192) ![n] S128.size inb).emb (S128.rowMajor.symm ((x 0).cast rfl)))).trans (congrArg lst ?_)
    show B + (n + 1 * ((S128.rowMajor.symm ((x 0).cast rfl)) 0).val) = _
    rw [hk]; omega
  have hlt := hin (S128.rowMajor.symm ((x 0).cast rfl))
  rw [hw] at hlt
  congr 1
  funext a
  apply Fin.ext
  match a with
  | 0 =>
    refine (congrArg Fin.val (Shape.Gathers.idx_axis gathers_S262144x128_S128x128 _ x)).trans ?_
    show BitVec.toNat (_ : BitVec 32) = (lst (B + n + (x 0).val)).toNat % 262144
    refine (congrArg BitVec.toNat hw).trans (Nat.mod_eq_of_lt hlt).symm
  | 1 =>
    refine (Shape.Gathers.idx_of_ne gathers_S262144x128_S128x128 _ x (b := 1) (by decide)).trans ?_
    show (x 1).val = (x 1).val % 128
    exact (Nat.mod_eq_of_lt (x 1).isLt).symm

/-- A gather in flight: it delivers the destination holding the chunk from place `o`, and gives the shares of the table
    and of the list back. -/
def gFlight (sem : DmaSem sig) (q ql : PosShare TreeShare) (ft : Buf (Elt F) (arg2.view.loc (thrV d i)))
    (f5 : Buf (Elt F) (arg5.view.loc (thrV d i))) (lst : ℕ → BitVec 32) (o : ℕ) : sProp 𝕄 :=
  Transfers.Flight countersEmb (thrV d i) (.dma sem) (none : HIx 2) dst.view.dmaCredit
    iprop((∃ fd, (dst.view.loc (thrV d i) ↦[dst.view.set]{fullShare} fd) ∗ ⌜dst.view.read (Elt F) fd = chunk (arg2.view.read (Elt F) ft) lst o⌝)
      ∗ (arg2.view.loc (thrV d i) ↦[arg2.view.set]{q} ft) ∗ (arg5.view.loc (thrV d i) ↦[arg5.view.set]{ql} f5))

/-- A gather starts. -/
theorem gather_start {α : Type} (sem : DmaSem sig) (q ql : PosShare TreeShare) (ft : Buf (Elt F) (arg2.view.loc (thrV d i)))
    (f5 : Buf (Elt F) (arg5.view.loc (thrV d i))) (fd : Buf (Elt F) (dst.view.loc (thrV d i)))
    (lst : ℕ → BitVec 32) (hlt : ∀ p, (lst p).toNat < 262144) (B : ℕ) (hl : ∀ x : S8192.Idx, arg5.view.read (Elt F) f5 x = lst (B + (x 0).val))
    (o : Fin 1 → ℕ) (n : ℕ) (ho : o = ![n]) (inb : ∀ a, o a + S128.size a ≤ S8192.size a)
    (k : PUnit → Prog (TpuEff nD τ sig (Elt F) Λ₀ (thrV d i).2) α) (Q : α → sProp 𝕄) :
    iprop((arg2.view.loc (thrV d i) ↦[arg2.view.set]{q} ft) ∗ (arg5.view.loc (thrV d i) ↦[arg5.view.set]{ql} f5)
        ∗ (dst.view.loc (thrV d i) ↦[dst.view.set]{fullShare} fd) ∗ semVal (thrV d i, SemLoc.dma sem) 0
        ∗ (gFlight (F := F) d i arg2 arg5 dst sem q ql ft f5 lst (B + n) -∗ wp frame (wpE (defs₀ (F := F)) 𝒱₀ (thrV d i) none) Set.univ (k ⟨⟩) Q))
      ⊢ wp frame (wpE (defs₀ (F := F)) 𝒱₀ (thrV d i) none) Set.univ
        (SparseCore.enqueueIndirectGather rfl
          (arg2.slice (Rect.unit (s := S262144x128) ![0, 0] S262144x128.size inb_S262144x128_S262144x128_0_0) (fun _ => rfl)) dst gathers_S262144x128_S128x128
          (arg5.slice (Rect.unit (s := S8192) o S128.size inb) (fun _ => rfl)) rfl sem (View.wordExact_bits rfl) rfl (Or.inl rfl) >>= k) Q := by
  have hin : ∀ x, ((arg5.slice (Rect.unit (s := S8192) o S128.size inb) (fun _ => rfl)).view.read (Elt F) f5 x).toNat
      < S262144x128.size gathers_S262144x128_S128x128.axis := by
    intro x
    refine lt_of_eq_of_lt (congrArg BitVec.toNat (hl ((Rect.unit (s := S8192) o S128.size inb).emb x))) ?_
    exact hlt _
  have hs2 := View.set_slice_subset arg2.view (Rect.unit (s := S262144x128) ![0, 0] S262144x128.size inb_S262144x128_S262144x128_0_0)
  have hs5 := View.set_slice_subset arg5.view (Rect.unit (s := S8192) o S128.size inb)
  iintro ⟨H2, H5, Hd, Hs, Hk⟩
  ihave H2 := (pointsTo_split_subset hs2).1 $$ H2
  icases H2 with ⟨H2, H2r⟩
  ihave H5 := (pointsTo_split_subset hs5).1 $$ H5
  icases H5 with ⟨H5, H5r⟩
  iapply (SparseCore.wp_indirectGatherLocal countersEmb 𝒱₀ (thrV d i) none (hg := gathers_S262144x128_S128x128) (none : HIx 2)
      dst.view.dmaCredit (SparseCore.sum_rowCredit_eq_dmaCredit dst _ (fun _ => rfl)) (by decide) hin) $$ [H2 Hd H5 Hs]
  · isplitl [H2]
    · iexact H2
    isplitl [Hd]
    · iexact Hd
    isplitl [H5]
    · iexact H5
    iexact Hs
  iintro Hfl
  iapply Hk
  unfold gFlight
  iapply (flight_frame_mono (F := F) (R := iprop((arg2.view.loc (thrV d i) ↦[arg2.view.set \ (arg2.view.slice (Rect.unit (s := S262144x128) ![0, 0] S262144x128.size inb_S262144x128_S262144x128_0_0)).set]{q} ft)
      ∗ (arg5.view.loc (thrV d i) ↦[arg5.view.set \ (arg5.view.slice (Rect.unit (s := S8192) o S128.size inb)).set]{ql} f5))) ?_) $$ [Hfl H2r H5r]
  swap
  · isplitl [Hfl]
    · iexact Hfl
    isplitl [H2r]
    · iexact H2r
    iexact H5r
  iintro ⟨⟨Hd, H2, H5⟩, H2r, H5r⟩
  isplitl [Hd]
  · iexists _
    isplitl [Hd]
    · iexact Hd
    ipureintro
    rw [View.read_write_univ]
    exact gather_chunk d i arg2 arg5 ft f5 lst B hl o n ho inb hin
  isplitl [H2 H2r]
  · iapply (pointsTo_split_subset hs2).2
    isplitl [H2]
    · iexact H2
    iexact H2r
  iapply (pointsTo_split_subset hs5).2
  isplitl [H5]
  · iexact H5
  iexact H5r

/-- A gather is waited for. -/
theorem gather_wait {α : Type} {κ' : Kind} (sem : DmaSem sig) (srcw : Memref sig .scVector .hbm S262144x128 .f32) (hsrc : srcw.view.WordExact) (hdst : dst.view.WordExact)
    (q ql : PosShare TreeShare) (ft : Buf (Elt F) (arg2.view.loc (thrV d i)))
    (f5 : Buf (Elt F) (arg5.view.loc (thrV d i))) (lst : ℕ → BitVec 32) (o : ℕ) (O : CellTallies nD τ sig (HIx 2)) (W : Waits sig (HIx 2))
    (k : PUnit → Prog (TpuEff nD τ sig (Elt F) Λ₀ (thrV d i).2) α) (Q : α → sProp 𝕄) :
    iprop(Transfers.MayWaits (thrV d i) (none : HIx 2) O ∗ gFlight (F := F) d i arg2 arg5 dst sem q ql ft f5 lst o
        ∗ (∃ W', ⌜∀ p ∈ W', p ∈ W ∨ p.2 = none⌝ ∗ owes (thrV d i) O W')
        ∗ ((∃ fd, (dst.view.loc (thrV d i) ↦[dst.view.set]{fullShare} fd) ∗ ⌜dst.view.read (Elt F) fd = chunk (arg2.view.read (Elt F) ft) lst o⌝)
            ∗ (arg2.view.loc (thrV d i) ↦[arg2.view.set]{q} ft) ∗ (arg5.view.loc (thrV d i) ↦[arg5.view.set]{ql} f5)
            ∗ semVal (thrV d i, SemLoc.dma sem) 0 ∗ (∃ W', ⌜∀ p ∈ W', p ∈ W ∨ p.2 = none⌝ ∗ owes (thrV d i) O W')
          -∗ wp frame (wpE (defs₀ (F := F)) 𝒱₀ (thrV d i) none) Set.univ (k ⟨⟩) Q))
      ⊢ wp frame (wpE (defs₀ (F := F)) 𝒱₀ (thrV d i) none) Set.univ (SparseCore.waitIndirectGather sem srcw dst hsrc hdst >>= k) Q := by
  iintro ⟨#Hmw, Hfl, ⟨%W', %hW', HO⟩, Hk⟩
  unfold gFlight
  iapply (Transfers.wp_waitLocalO countersEmb 𝒱₀ (thrV d i) none (none : HIx 2) (rfl : dst.view.dmaCredit = _)) $$ [Hfl HO]
  · isplitl [Hfl]
    · iexact Hfl
    isplitl [HO]
    · iexact HO
    iapply (Transfers.MayWaits.elim (SemLoc.dma sem)) $$ Hmw
  iintro ⟨⟨Hd, H2, H5⟩, Hs, HO⟩
  iapply Hk
  isplitl [Hd]
  · iexact Hd
  isplitl [H2]
  · iexact H2
  isplitl [H5]
  · iexact H5
  isplitl [Hs]
  · iexact Hs
  iexists _
  isplitr
  swap
  · iexact HO
  ipureintro
  intro p hp
  rcases Finset.mem_insert.mp hp with hp | hp
  · exact .inr (hp ▸ rfl)
  exact hW' p hp

end Cert.Proof
end
-- ==== Proof.Side.lean ====
/-
  The write-outs of a tile: one of its two staging buffers over the thirty-two trips, a block of thirty-two result rows a
  trip, each waited for before the buffer is written again.
-/
module
public import proofs.«01_k».proof.Proof.Chunk

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 2) (Elt F) ℕ UU ℕ

variable (d : Dev nD) (i : grid1.Coords)

/-- The tile's first row of the result. -/
abbrev base (i : grid1.Coords) : ℕ := 4096 * (i 1).val + 2048 * (i 0).val

/-- Where block `b` of trip `t` starts. -/
abbrev boff (t : Fin 32) (b : Fin 2) : Fin 2 → ℕ := ![base i + 64 * t.val + 32 * b.val, 0]

theorem boff_inb (t : Fin 32) (b : Fin 2) : ∀ a, boff i t b a + S32x96.size a ≤ S65536x96.size a := by
  have h0 : (i 0).val < 2 := (i 0).isLt
  have h1 : (i 1).val < 16 := (i 1).isLt
  intro a
  match a with
  | 0 => show base i + 64 * t.val + 32 * b.val + 32 ≤ 65536; have := t.isLt; have := b.isLt; unfold base; omega
  | 1 => show 0 + 96 ≤ 96; omega

/-- The rows of block `b` of trip `t`. -/
abbrev brect (t : Fin 32) (b : Fin 2) : Rect S65536x96 := Rect.unit (s := S65536x96) (boff i t b) S32x96.size (boff_inb i t b)

variable (arg4 : Memref sig .scVector .hbm S65536x96 .f32) (src : Memref sig .scVector .vmem S32x96 .f32)

/-- The elements of block `b` of trip `t`. -/
abbrev bSet (t : Fin 32) (b : Fin 2) : Finset (Idx (arg4.view.loc (thrV d i))) := (arg4.view.slice (brect i t b)).set

/-- A block written with rows `g` is the block at contents reading `g` there. -/
theorem block_congr (f fin : Buf (Elt F) (arg4.view.loc (thrV d i))) (r : Rect S65536x96) (g : r.shape.Idx → F .f32)
    (h : ∀ x, arg4.view.read (Elt F) fin (r.emb x) = g x) :
    (arg4.view.loc (thrV d i) ↦[(arg4.view.slice r).set]{fullShare} (arg4.view.slice r).write (Elt F) f g Finset.univ : sProp 𝕄)
      = arg4.view.loc (thrV d i) ↦[(arg4.view.slice r).set]{fullShare} fin := by
  refine pointsTo_congr fun j hj => ?_
  obtain ⟨x, -, rfl⟩ := Finset.mem_map.1 hj
  refine View.eq_of_read_eq (v := arg4.view.slice r) (x := x) ?_
  rw [View.read_write_univ]
  exact (h x).symm

variable (f0 fin : Buf (Elt F) (arg4.view.loc (thrV d i))) (sem : DmaSem sig) (b : Fin 2)

/-- A transfer's credit on a block of the result. -/
abbrev bCredit : ℕ := (arg4.view.slice (brect i 0 0)).dmaCredit

/-- The staging buffer before trip `k`: free, or its last block on the way out. -/
def stage (k : ℕ) : sProp 𝕄 :=
  if h : k = 0 ∨ 32 < k then iprop((∃ fs, (src.view.loc (thrV d i) ↦[src.view.set]{fullShare} fs)) ∗ semVal (thrV d i, SemLoc.dma sem) 0)
  else Transfers.Flight countersEmb (thrV d i) (.dma sem) (none : HIx 2) (bCredit i arg4)
    iprop((arg4.view.loc (thrV d i) ↦[bSet d i arg4 ⟨k - 1, by omega⟩ b]{fullShare} fin) ∗ (∃ fs, (src.view.loc (thrV d i) ↦[src.view.set]{fullShare} fs)))

/-- The blocks not yet started before trip `k`. -/
def pend (k : ℕ) : sProp 𝕄 :=
  bigSep (Finset.univ.filter fun t : Fin 32 => k ≤ t.val) fun t => (arg4.view.loc (thrV d i) ↦[bSet d i arg4 t b]{fullShare} f0)

/-- The blocks of the first `k` trips, at their final contents. -/
def done (k : ℕ) : sProp 𝕄 :=
  bigSep (Finset.univ.filter fun t : Fin 32 => t.val < k) fun t => (arg4.view.loc (thrV d i) ↦[bSet d i arg4 t b]{fullShare} fin)

theorem pend_step (t : Fin 32) :
    (pend (F := F) d i arg4 f0 b t.val : sProp 𝕄) = iprop((arg4.view.loc (thrV d i) ↦[bSet d i arg4 t b]{fullShare} f0) ∗ pend (F := F) d i arg4 f0 b (t.val + 1)) := by
  unfold pend
  rw [SparseCore.bigSep_erase' (i := t) (by simp)]
  congr 2
  ext u
  simp only [Finset.mem_erase, Finset.mem_filter, Finset.mem_univ, true_and, ne_eq, Fin.ext_iff]
  omega

theorem done_step (t : Fin 32) :
    (done (F := F) d i arg4 fin b (t.val + 1) : sProp 𝕄) = iprop((arg4.view.loc (thrV d i) ↦[bSet d i arg4 t b]{fullShare} fin) ∗ done (F := F) d i arg4 fin b t.val) := by
  unfold done
  rw [SparseCore.bigSep_erase' (i := t) (by simp)]
  congr 2
  ext u
  simp only [Finset.mem_erase, Finset.mem_filter, Finset.mem_univ, true_and, ne_eq, Fin.ext_iff]
  omega

/-- One side of the tile's output before trip `k`: the staging buffer, the blocks to come, the blocks done. -/
def side (k : ℕ) : sProp 𝕄 :=
  iprop(stage (F := F) d i arg4 src fin sem b k ∗ pend (F := F) d i arg4 f0 b k ∗ done (F := F) d i arg4 fin b (k - 1))

/-- The same, the staging buffer waited for. -/
def free (k : ℕ) : sProp 𝕄 :=
  iprop((∃ fs, (src.view.loc (thrV d i) ↦[src.view.set]{fullShare} fs)) ∗ semVal (thrV d i, SemLoc.dma sem) 0
    ∗ pend (F := F) d i arg4 f0 b k ∗ done (F := F) d i arg4 fin b k)

/-- The waits a tile has made beyond those it came with. -/
abbrev waited (O : CellTallies nD τ sig (HIx 2)) (W : Waits sig (HIx 2)) : sProp 𝕄 :=
  iprop(∃ W', ⌜∀ p ∈ W', p ∈ W ∨ p.2 = none⌝ ∗ owes (thrV d i) O W')

/-- A block's write-out is waited for. -/
theorem side_wait {α : Type} (w : Memref sig .scVector .hbm S32x96 .f32) (hsrc : src.view.WordExact) (hdst : w.view.WordExact)
    (hN : w.view.dmaCredit = bCredit i arg4) (O : CellTallies nD τ sig (HIx 2)) (W : Waits sig (HIx 2)) (k : ℕ) (hk : 0 < k) (hk' : k ≤ 32)
    (K : PUnit → Prog (TpuEff nD τ sig (Elt F) Λ₀ (thrV d i).2) α) (Q : α → sProp 𝕄) :
    iprop(Transfers.MayWaits (thrV d i) (none : HIx 2) O ∗ side (F := F) d i arg4 src f0 fin sem b k ∗ waited (F := F) d i O W
        ∗ (free (F := F) d i arg4 src f0 fin sem b k ∗ waited (F := F) d i O W -∗ wp frame (wpE (defs₀ (F := F)) 𝒱₀ (thrV d i) none) Set.univ (K ⟨⟩) Q))
      ⊢ wp frame (wpE (defs₀ (F := F)) 𝒱₀ (thrV d i) none) Set.univ (Prog.lift (.waitDma2 sem src w hsrc hdst) >>= K) Q := by
  obtain ⟨k, rfl⟩ : ∃ k', k = k' + 1 := ⟨k - 1, by omega⟩
  unfold side stage waited
  rw [dif_neg (by omega)]
  iintro ⟨#Hmw, ⟨Hfl, Hp, Hd⟩, ⟨%W', %hW', HO⟩, Hk⟩
  iapply (Transfers.wp_waitLocalO countersEmb 𝒱₀ (thrV d i) none (none : HIx 2) hN) $$ [Hfl HO]
  · isplitl [Hfl]
    · iexact Hfl
    isplitl [HO]
    · iexact HO
    iapply (Transfers.MayWaits.elim (SemLoc.dma sem)) $$ Hmw
  iintro ⟨⟨Hb, Hs⟩, Hv, HO⟩
  iapply Hk
  isplitr [HO]
  · unfold free
    isplitl [Hs]
    · iexact Hs
    isplitl [Hv]
    · iexact Hv
    isplitl [Hp]
    · iexact Hp
    iapply (Entails.of_eq (done_step (F := F) d i arg4 fin b ⟨k, by omega⟩).symm)
    isplitl [Hb]
    · iexact Hb
    iexact Hd
  iexists _
  isplitr
  swap
  · iexact HO
  ipureintro
  intro p hp
  rcases Finset.mem_insert.mp hp with hp | hp
  · exact .inr (hp ▸ rfl)
  exact hW' p hp

/-- Before trip zero nothing is on its way out. -/
theorem side_zero : (side (F := F) d i arg4 src f0 fin sem b 0 : sProp 𝕄) ⊢ free (F := F) d i arg4 src f0 fin sem b 0 := by
  unfold side free stage
  rw [dif_pos (Or.inl rfl)]
  iintro ⟨⟨Hs, Hv⟩, Hp, Hd⟩
  isplitl [Hs]
  · iexact Hs
  isplitl [Hv]
  · iexact Hv
  isplitl [Hp]
  · iexact Hp
  iexact Hd

/-- A free staging buffer and every block to come: a side before trip zero. -/
theorem side_of_free :
    iprop((∃ fs, (src.view.loc (thrV d i) ↦[src.view.set]{fullShare} fs)) ∗ semVal (thrV d i, SemLoc.dma sem) 0 ∗ pend (F := F) d i arg4 f0 b 0)
      ⊢ side (F := F) d i arg4 src f0 fin sem b 0 := by
  unfold side stage
  rw [dif_pos (Or.inl rfl)]
  iintro ⟨Hs, Hv, Hp⟩
  isplitl [Hs Hv]
  · isplitl [Hs]
    · iexact Hs
    iexact Hv
  isplitl [Hp]
  · iexact Hp
  unfold done
  rw [show (Finset.univ.filter fun t : Fin 32 => t.val < 0 - 1) = ∅ from by ext; simp, bigSep_empty]
  iempintro

/-- The wait at the head of trip `k`, made only when a block is on its way out; what follows is the same either way. -/
theorem side_wait_cond {α : Type} (p : Prop) [Decidable p] (k : ℕ) (hp : p ↔ 0 < k) (hk' : k ≤ 32) (w : p → Memref sig .scVector .hbm S32x96 .f32)
    (hsrc : src.view.WordExact) (hdst : ∀ h, (w h).view.WordExact)
    (hN : ∀ h, (w h).view.dmaCredit = bCredit i arg4) (O : CellTallies nD τ sig (HIx 2)) (W : Waits sig (HIx 2))
    (J : Prog (TpuEff nD τ sig (Elt F) Λ₀ (thrV d i).2) α) (Q : α → sProp 𝕄) :
    iprop(Transfers.MayWaits (thrV d i) (none : HIx 2) O ∗ side (F := F) d i arg4 src f0 fin sem b k ∗ waited (F := F) d i O W
        ∗ (free (F := F) d i arg4 src f0 fin sem b k ∗ waited (F := F) d i O W -∗ wp frame (wpE (defs₀ (F := F)) 𝒱₀ (thrV d i) none) Set.univ J Q))
      ⊢ wp frame (wpE (defs₀ (F := F)) 𝒱₀ (thrV d i) none) Set.univ
        (dite p (fun h => Prog.lift (.waitDma2 sem src (w h) hsrc (hdst h)) >>= fun _ => J) (fun _ => J)) Q := by
  by_cases h : p
  · rw [dif_pos h]
    exact side_wait (F := F) d i arg4 src f0 fin sem b (w h) hsrc (hdst h) (hN h) O W k (hp.mp h) hk' (fun _ => J) Q
  · rw [dif_neg h]
    have hk0 : k = 0 := by
      by_contra h0
      exact h (hp.mpr (Nat.pos_of_ne_zero h0))
    subst hk0
    iintro ⟨-, Hs, HO, Hk⟩
    iapply Hk
    isplitl [Hs]
    · iapply (side_zero (F := F) d i arg4 src f0 fin sem b) $$ Hs
    iexact HO

/-- The block of trip `t` sets out. -/
theorem side_start {α : Type} (t : Fin 32) (o : Fin 2 → ℕ) (ho : o = boff i t b) (inb : ∀ a, o a + S32x96.size a ≤ S65536x96.size a)
    (fs : Buf (Elt F) (src.view.loc (thrV d i))) (hfs : ∀ x, arg4.view.read (Elt F) fin ((brect i t b).emb x) = src.view.read (Elt F) fs x)
    (hsrc : src.view.WordExact) (hdst : (arg4.slice (Rect.unit (s := S65536x96) o S32x96.size inb) (fun _ => rfl)).view.WordExact) (hsem)
    (K : PUnit → Prog (TpuEff nD τ sig (Elt F) Λ₀ (thrV d i).2) α) (Q : α → sProp 𝕄) :
    iprop((src.view.loc (thrV d i) ↦[src.view.set]{fullShare} fs) ∗ semVal (thrV d i, SemLoc.dma sem) 0
        ∗ pend (F := F) d i arg4 f0 b t.val ∗ done (F := F) d i arg4 fin b t.val
        ∗ (side (F := F) d i arg4 src f0 fin sem b (t.val + 1) -∗ wp frame (wpE (defs₀ (F := F)) 𝒱₀ (thrV d i) none) Set.univ (K ⟨⟩) Q))
      ⊢ wp frame (wpE (defs₀ (F := F)) 𝒱₀ (thrV d i) none) Set.univ
        (Prog.lift (.enqueueDma src (.here (arg4.slice (Rect.unit (s := S65536x96) o S32x96.size inb) (fun _ => rfl))) (.dma sem) hsrc hdst hsem) >>= K) Q := by
  subst ho
  iintro ⟨Hs, Hv, Hp, Hd, Hk⟩
  ihave Hp := (Entails.of_eq (pend_step (F := F) d i arg4 f0 b t)) $$ Hp
  icases Hp with ⟨Hb, Hp⟩
  iapply (Transfers.wp_dmaLocal countersEmb 𝒱₀ (thrV d i) none (none : HIx 2) (bCredit i arg4) rfl
    (View.amount_pos (arg4.view.slice (brect i 0 0)) (.dma sem) (show 0 < S32x96.numel by decide)) (Finset.Subset.refl _)) $$ [Hs Hb Hv]
  · isplitl [Hs]
    · iexact Hs
    isplitl [Hb]
    · iexact Hb
    iexact Hv
  iintro Hfl
  iapply Hk
  unfold side stage
  rw [dif_neg (by have := t.isLt; omega)]
  isplitl [Hfl]
  · iapply (Transfers.Flight_mono countersEmb (thrV d i) ?_) $$ Hfl
    iintro ⟨Hb, Hs⟩
    isplitl [Hb]
    · iapply (Entails.of_eq (block_congr (F := F) d i arg4 f0 fin (brect i t b) _ hfs))
      iexact Hb
    iexists _
    iexact Hs
  isplitl [Hp]
  · iexact Hp
  iexact Hd

end Cert.Proof
end
-- ==== Proof.Tile.lean ====
/-
  A tile's whole task: its part of the list fetched, the gathers of the chunks two at a time, each chunk pooled and its
  block of the result written out.
-/
module
public import proofs.«01_k».proof.Proof.Side

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 2) (Elt F) ℕ UU ℕ

variable (d : Dev nD) (i : grid1.Coords)
variable (arg2 : Memref sig .scVector .hbm S262144x128 .f32) (harg2 : arg2.IsWhole) (arg3 : Memref sig .scVector .hbm S262144 .i32) (harg3 : arg3.IsWhole)
  (arg4 : Memref sig .scVector .hbm S65536x96 .f32) (harg4 : arg4.IsWhole) (arg5 : Memref sig .scVector .vmem S8192 .i32) (harg5 : arg5.IsWhole)
  (arg6 : Memref sig .scVector .vmem S128x128 .f32) (harg6 : arg6.IsWhole) (arg7 : Memref sig .scVector .vmem S128x128 .f32) (harg7 : arg7.IsWhole)
  (arg8 : Memref sig .scVector .vmem S32x96 .f32) (harg8 : arg8.IsWhole) (arg9 : Memref sig .scVector .vmem S32x96 .f32) (harg9 : arg9.IsWhole)
  (arg10 : DmaSems sig S_) (arg11 : DmaSems sig S_) (arg12 : DmaSems sig S_) (arg13 : DmaSems sig S_) (v18_r0 : DmaSems sig S_)

/-- Where a chunk starts in the whole list: chunk `2 k + b` of the tile's part, the last one from chunk 63 on. -/
abbrev place (k b : ℕ) : ℕ := 4 * base i + 128 * min (2 * k + b) 63

variable (q ql : PosShare TreeShare) (ft : Buf (Elt F) (arg2.view.loc (thrV d i))) (f5 : Buf (Elt F) (arg5.view.loc (thrV d i)))
  (f0 fin : Buf (Elt F) (arg4.view.loc (thrV d i))) (lst : ℕ → BitVec 32)
  (O : CellTallies nD τ sig (HIx 2)) (W : Waits sig (HIx 2))

theorem cond1_iff : ∀ t : Fin k1_t1_loop.trips, k1_cond1 t = 1#1 ↔ 0 < t.val := by decide +kernel
theorem cond2_iff : ∀ t : Fin k1_t1_loop.trips, k1_cond2 t = 1#1 ↔ 0 < t.val := by decide +kernel

/-- A trip's number among the thirty-two. -/
abbrev trip (t : Fin k1_t1_loop.trips) : Fin 32 := ⟨t.val, t.isLt⟩

/-- The block pooled at trip `t` is the result's. -/
theorem block_value (hfin : arg4.view.read (Elt F) fin = poolAll (arg2.view.read (Elt F) ft) lst) (t : Fin 32) (b : Fin 2)
    (g : S128x128.Idx → F .f32) (hg : g = chunk (arg2.view.read (Elt F) ft) lst (place i t.val b.val)) (x : S32x96.Idx) :
    arg4.view.read (Elt F) fin ((brect i t b).emb x) = pool g x := by
  subst hg
  rw [hfin]
  refine (pool_chunk _ _ _ x _ ?_ ?_).symm
  · show 4 * (base i + 64 * t.val + 32 * b.val + 1 * (x 0).val) = place i t.val b.val + 4 * (x 0).val
    have := t.isLt
    have := b.isLt
    unfold place
    rw [Nat.min_eq_left (by omega)]
    omega
  · show 0 + 1 * (x 1).val = (x 1).val
    omega

/-- The first half of a trip: the first chunk pooled and sent, the next one started, the second chunk waited for. -/
theorem half0 (v2 : BitVec 32) (t : Fin k1_t1_loop.trips) (hlt : ∀ p, (lst p).toNat < 262144)
    (hl : ∀ x : S8192.Idx, arg5.view.read (Elt F) f5 x = lst (4 * base i + (x 0).val))
    (hfin : arg4.view.read (Elt F) fin = poolAll (arg2.view.read (Elt F) ft) lst) (Q : BitVec 32 → sProp 𝕄) :
    iprop(Transfers.MayWaits (thrV d i) (none : HIx 2) O
        ∗ gFlight (F := F) d i arg2 arg5 arg6 arg10.sem q.left ql.left ft f5 lst (place i t.val 0)
        ∗ gFlight (F := F) d i arg2 arg5 arg7 arg11.sem q.right ql.right ft f5 lst (place i t.val 1)
        ∗ side (F := F) d i arg4 arg8 f0 fin arg12.sem 0 t.val ∗ waited (F := F) d i O W
        ∗ (∀ v, (gFlight (F := F) d i arg2 arg5 arg6 arg10.sem q.left ql.left ft f5 lst (place i (t.val + 1) 0)
              ∗ side (F := F) d i arg4 arg8 f0 fin arg12.sem 0 (t.val + 1)
              ∗ (∃ fd, (arg7.view.loc (thrV d i) ↦[arg7.view.set]{fullShare} fd) ∗ ⌜arg7.view.read (Elt F) fd = chunk (arg2.view.read (Elt F) ft) lst (place i t.val 1)⌝)
              ∗ (arg2.view.loc (thrV d i) ↦[arg2.view.set]{q.right} ft) ∗ (arg5.view.loc (thrV d i) ↦[arg5.view.set]{ql.right} f5)
              ∗ semVal (thrV d i, SemLoc.dma arg11.sem) 0 ∗ waited (F := F) d i O W) -∗ Q v))
      ⊢ wp frame (wpE (defs₀ (F := F)) 𝒱₀ (thrV d i) none) Set.univ (k1_part7 (F := F) i arg2 harg2 arg3 harg3 arg4 harg4 arg5 harg5 arg6 harg6 arg7 harg7 arg8 harg8 arg9 harg9 arg10 arg11 arg12 arg13 v18_r0 v2 0#32 1#32 t) Q := by
  rw [k1_part7_eq_skeleton]
  unfold k1_part7_skel
  iintro ⟨#Hmw, Hg0, Hg1, Hs, HO, Hk⟩
  iapply (gather_wait (F := F) d i arg2 arg5 arg6 (κ' := .scVector) arg10.sem _ _ _ q.left ql.left ft f5 lst (place i t.val 0) O W _ _)
  isplitr
  · iexact Hmw
  isplitl [Hg0]
  · iexact Hg0
  isplitl [HO]
  · iexact HO
  iintro ⟨⟨%f6, H6, %h6⟩, H2, H5, Hv, HO⟩
  iapply (side_wait_cond (F := F) d i arg4 arg8 f0 fin arg12.sem 0 (k1_cond1 t = 1#1) t.val (cond1_iff t) (le_of_lt (trip t).isLt) _ _ _ (fun _ => rfl) O W)
  isplitr
  · iexact Hmw
  isplitl [Hs]
  · iexact Hs
  isplitl [HO]
  · iexact HO
  iintro ⟨Hs, HO⟩
  unfold free
  icases Hs with ⟨⟨%f8, H8⟩, Hv8, Hp, Hd⟩
  rw [wp_bind]
  iapply (t2_loop (F := F) d i arg2 harg2 arg3 harg3 arg4 harg4 arg5 harg5 arg6 harg6 arg7 harg7 arg8 harg8 arg9 harg9 arg10 arg11 arg12 arg13 v18_r0 v2 0#32 1#32 t f6 f8)
  isplitl [H6]
  · iexact H6
  isplitl [H8]
  · iexact H8
  iintro %r %f8' ⟨H6, H8, %h8⟩
  iapply (side_start (F := F) d i arg4 arg8 f0 fin arg12.sem 0 (trip t) _ (k1_off22_eq i t 0) _ f8'
    (fun x => (block_value (F := F) d i arg2 arg4 ft fin lst hfin (trip t) 0 _ h6 x).trans (congrFun h8 x).symm))
  isplitl [H8]
  · iexact H8
  isplitl [Hv8]
  · iexact Hv8
  isplitl [Hp]
  · iexact Hp
  isplitl [Hd]
  · iexact Hd
  iintro Hs
  iapply (gather_start (F := F) d i arg2 arg5 arg6 arg10.sem q.left ql.left ft f5 f6 lst hlt (4 * base i) hl _
    (128 * min (2 * (t.val + 1) + 0) 63) (k1_off23_eq t 0))
  isplitl [H2]
  · iexact H2
  isplitl [H5]
  · iexact H5
  isplitl [H6]
  · iexact H6
  isplitl [Hv]
  · iexact Hv
  iintro Hg0
  iapply (gather_wait (F := F) d i arg2 arg5 arg7 (κ' := .scVector) arg11.sem _ _ _ q.right ql.right ft f5 lst (place i t.val 1) O W _ _)
  isplitr
  · iexact Hmw
  isplitl [Hg1]
  · iexact Hg1
  isplitl [HO]
  · iexact HO
  iintro ⟨H7, H2, H5, Hv, HO⟩
  rw [Prog.pure_eq_ret, wp_ret]
  imodintro
  iapply Hk
  isplitl [Hg0]
  · iexact Hg0
  isplitl [Hs]
  · iexact Hs
  isplitl [H7]
  · iexact H7
  isplitl [H2]
  · iexact H2
  isplitl [H5]
  · iexact H5
  isplitl [Hv]
  · iexact Hv
  iexact HO

/-- What the tile keeps before trip `k`: both gathers in flight, both sides of the output. -/
def tileInv (k : ℕ) : sProp 𝕄 :=
  iprop(gFlight (F := F) d i arg2 arg5 arg6 arg10.sem q.left ql.left ft f5 lst (place i k 0)
    ∗ gFlight (F := F) d i arg2 arg5 arg7 arg11.sem q.right ql.right ft f5 lst (place i k 1)
    ∗ side (F := F) d i arg4 arg8 f0 fin arg12.sem 0 k ∗ side (F := F) d i arg4 arg9 f0 fin arg13.sem 1 k ∗ waited (F := F) d i O W)

/-- One trip of the tile's loop. -/
theorem trip_body (v2 : BitVec 32) (t : Fin k1_t1_loop.trips) (acc : BitVec 32) (hlt : ∀ p, (lst p).toNat < 262144)
    (hl : ∀ x : S8192.Idx, arg5.view.read (Elt F) f5 x = lst (4 * base i + (x 0).val))
    (hfin : arg4.view.read (Elt F) fin = poolAll (arg2.view.read (Elt F) ft) lst) (Q : BitVec 32 → sProp 𝕄) :
    iprop(Transfers.MayWaits (thrV d i) (none : HIx 2) O
        ∗ tileInv (F := F) d i arg2 arg4 arg5 arg6 arg7 arg8 arg9 arg10 arg11 arg12 arg13 q ql ft f5 f0 fin lst O W t.val
        ∗ (∀ v, tileInv (F := F) d i arg2 arg4 arg5 arg6 arg7 arg8 arg9 arg10 arg11 arg12 arg13 q ql ft f5 f0 fin lst O W (t.val + 1) -∗ Q v))
      ⊢ wp frame (wpE (defs₀ (F := F)) 𝒱₀ (thrV d i) none) Set.univ (k1_t1_body (F := F) i arg2 harg2 arg3 harg3 arg4 harg4 arg5 harg5 arg6 harg6 arg7 harg7 arg8 harg8 arg9 harg9 arg10 arg11 arg12 arg13 v18_r0 v2 t acc) Q := by
  unfold k1_t1_body tileInv
  iintro ⟨#Hmw, ⟨Hg0, Hg1, Hs0, Hs1, HO⟩, Hk⟩
  rw [wp_bind]
  iapply (half0 (F := F) d i arg2 harg2 arg3 harg3 arg4 harg4 arg5 harg5 arg6 harg6 arg7 harg7 arg8 harg8 arg9 harg9 arg10 arg11 arg12 arg13 v18_r0 q ql ft f5 f0 fin lst O W v2 t hlt hl hfin)
  isplitr
  · iexact Hmw
  isplitl [Hg0]
  · iexact Hg0
  isplitl [Hg1]
  · iexact Hg1
  isplitl [Hs0]
  · iexact Hs0
  isplitl [HO]
  · iexact HO
  iintro %v ⟨Hg0, Hs0, ⟨%f7, H7, %h7⟩, H2, H5, Hv, HO⟩
  iapply (side_wait_cond (F := F) d i arg4 arg9 f0 fin arg13.sem 1 (k1_cond2 t = 1#1) t.val (cond2_iff t) (le_of_lt (trip t).isLt) _ _ _ (fun _ => rfl) O W)
  isplitr
  · iexact Hmw
  isplitl [Hs1]
  · iexact Hs1
  isplitl [HO]
  · iexact HO
  iintro ⟨Hs, HO⟩
  unfold free
  icases Hs with ⟨⟨%f9, H9⟩, Hv9, Hp, Hd⟩
  rw [wp_bind]
  iapply (t3_loop (F := F) d i arg2 harg2 arg3 harg3 arg4 harg4 arg5 harg5 arg6 harg6 arg7 harg7 arg8 harg8 arg9 harg9 arg10 arg11 arg12 arg13 v18_r0 f7 f9)
  isplitl [H7]
  · iexact H7
  isplitl [H9]
  · iexact H9
  iintro %r %f9' ⟨H7, H9, %h9⟩
  iapply (side_start (F := F) d i arg4 arg9 f0 fin arg13.sem 1 (trip t) _ (k1_off22_eq i t 1) _ f9'
    (fun x => (block_value (F := F) d i arg2 arg4 ft fin lst hfin (trip t) 1 _ h7 x).trans (congrFun h9 x).symm))
  isplitl [H9]
  · iexact H9
  isplitl [Hv9]
  · iexact Hv9
  isplitl [Hp]
  · iexact Hp
  isplitl [Hd]
  · iexact Hd
  iintro Hs1
  iapply (gather_start (F := F) d i arg2 arg5 arg7 arg11.sem q.right ql.right ft f5 f7 lst hlt (4 * base i) hl _
    (128 * min (2 * (t.val + 1) + 1) 63) (k1_off23_eq t 1))
  isplitl [H2]
  · iexact H2
  isplitl [H5]
  · iexact H5
  isplitl [H7]
  · iexact H7
  isplitl [Hv]
  · iexact Hv
  iintro Hg1
  rw [Prog.pure_eq_ret, wp_ret]
  imodintro
  iapply Hk
  isplitl [Hg0]
  · iexact Hg0
  isplitl [Hg1]
  · iexact Hg1
  isplitl [Hs0]
  · iexact Hs0
  isplitl [Hs1]
  · iexact Hs1
  iexact HO

end Cert.Proof
end
-- ==== Proof.TileRun.lean ====
/-
  The whole of a tile's task, from the list's fetch to the last block's arrival.
-/
module
public import proofs.«01_k».proof.Proof.Tile

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 2) (Elt F) ℕ UU ℕ

variable (d : Dev nD) (i : grid1.Coords)
variable (arg2 : Memref sig .scVector .hbm S262144x128 .f32) (harg2 : arg2.IsWhole) (arg3 : Memref sig .scVector .hbm S262144 .i32) (harg3 : arg3.IsWhole)
  (arg4 : Memref sig .scVector .hbm S65536x96 .f32) (harg4 : arg4.IsWhole) (arg5 : Memref sig .scVector .vmem S8192 .i32) (harg5 : arg5.IsWhole)
  (arg6 : Memref sig .scVector .vmem S128x128 .f32) (harg6 : arg6.IsWhole) (arg7 : Memref sig .scVector .vmem S128x128 .f32) (harg7 : arg7.IsWhole)
  (arg8 : Memref sig .scVector .vmem S32x96 .f32) (harg8 : arg8.IsWhole) (arg9 : Memref sig .scVector .vmem S32x96 .f32) (harg9 : arg9.IsWhole)
  (arg10 : DmaSems sig S_) (arg11 : DmaSems sig S_) (arg12 : DmaSems sig S_) (arg13 : DmaSems sig S_) (v18_r0 : DmaSems sig S_)

variable (q : PosShare TreeShare) (ft : Buf (Elt F) (arg2.view.loc (thrV d i))) (fi : Buf (Elt F) (arg3.view.loc (thrV d i)))
  (f0 fin : Buf (Elt F) (arg4.view.loc (thrV d i))) (lst : ℕ → BitVec 32)
  (O : CellTallies nD τ sig (HIx 2)) (W : Waits sig (HIx 2))

/-- The tile's part of the list. -/
abbrev iSet : Finset (Idx (arg3.view.loc (thrV d i))) := (arg3.view.slice (Rect.unit (s := S262144) (k1_off1 i) S8192.size (k1_off1_inb i))).set

/-- A tile's own buffers and semaphores, all free. -/
def tileOwn : sProp 𝕄 :=
  iprop((∃ f, (arg5.view.loc (thrV d i) ↦[arg5.view.set]{fullShare} f)) ∗ (∃ f, (arg6.view.loc (thrV d i) ↦[arg6.view.set]{fullShare} f))
    ∗ (∃ f, (arg7.view.loc (thrV d i) ↦[arg7.view.set]{fullShare} f)) ∗ (∃ f, (arg8.view.loc (thrV d i) ↦[arg8.view.set]{fullShare} f))
    ∗ (∃ f, (arg9.view.loc (thrV d i) ↦[arg9.view.set]{fullShare} f))
    ∗ semVal (thrV d i, SemLoc.dma arg10.sem) 0 ∗ semVal (thrV d i, SemLoc.dma arg11.sem) 0 ∗ semVal (thrV d i, SemLoc.dma arg12.sem) 0
    ∗ semVal (thrV d i, SemLoc.dma arg13.sem) 0 ∗ semVal (thrV d i, SemLoc.dma v18_r0.sem) 0)

/-- The tile's list as fetched. -/
theorem fetch_value (h3 : ∀ p : S262144.Idx, arg3.view.read (Elt F) fi p = lst (p 0).val) (x : S8192.Idx) :
    (arg3.view.slice (Rect.unit (s := S262144) (k1_off1 i) S8192.size (k1_off1_inb i))).read (Elt F) fi x = lst (4 * base i + (x 0).val) := by
  refine (h3 ((Rect.unit (s := S262144) (k1_off1 i) S8192.size (k1_off1_inb i)).emb x)).trans (congrArg lst ?_)
  show k1_off1 i 0 + 1 * (x 0).val = _
  rw [k1_off1_eq]
  show 16384 * (i 1).val + 8192 * (i 0).val + 1 * (x 0).val = 4 * (4096 * (i 1).val + 2048 * (i 0).val) + (x 0).val
  omega

set_option maxHeartbeats 400000 in
/-- The task: the tile's blocks of the result at their final contents, everything else as it was. -/
theorem tile_run (hlt : ∀ p, (lst p).toNat < 262144) (h3 : ∀ p : S262144.Idx, arg3.view.read (Elt F) fi p = lst (p 0).val)
    (hfin : arg4.view.read (Elt F) fin = poolAll (arg2.view.read (Elt F) ft) lst) :
    iprop(Transfers.MayWaits (thrV d i) (none : HIx 2) O
        ∗ (arg2.view.loc (thrV d i) ↦[arg2.view.set]{q} ft) ∗ (arg3.view.loc (thrV d i) ↦[iSet d i arg3]{fullShare} fi)
        ∗ pend (F := F) d i arg4 f0 0 0 ∗ pend (F := F) d i arg4 f0 1 0
        ∗ tileOwn (F := F) d i arg5 arg6 arg7 arg8 arg9 arg10 arg11 arg12 arg13 v18_r0 ∗ owes (thrV d i) O W)
      ⊢ wp frame (wpE (defs₀ (F := F)) 𝒱₀ (thrV d i) none) Set.univ (cc1__gather_max_kernel (F := F) i arg2 harg2 arg3 harg3 arg4 harg4 arg5 harg5 arg6 harg6 arg7 harg7 arg8 harg8 arg9 harg9 arg10 arg11 arg12 arg13 v18_r0)
        fun _ => iprop((arg2.view.loc (thrV d i) ↦[arg2.view.set]{q} ft) ∗ (arg3.view.loc (thrV d i) ↦[iSet d i arg3]{fullShare} fi)
          ∗ done (F := F) d i arg4 fin 0 32 ∗ done (F := F) d i arg4 fin 1 32
          ∗ tileOwn (F := F) d i arg5 arg6 arg7 arg8 arg9 arg10 arg11 arg12 arg13 v18_r0 ∗ waited (F := F) d i O W) := by
  rw [cc1__gather_max_kernel_eq_skeleton]
  unfold cc1__gather_max_kernel_skel tileOwn
  iintro ⟨#Hmw, H2, H3, Hp0, Hp1, ⟨⟨%f5, H5⟩, ⟨%f6, H6⟩, ⟨%f7, H7⟩, ⟨%f8, H8⟩, ⟨%f9, H9⟩, Hv10, Hv11, Hv12, Hv13, Hvr⟩, HO⟩
  iapply (Transfers.wp_dmaLocal countersEmb 𝒱₀ (thrV d i) none (none : HIx 2) arg5.view.dmaCredit rfl
    (View.amount_pos arg5.view (.dma v18_r0.sem) (show 0 < S8192.numel by decide)) (Finset.Subset.refl _)) $$ [H3 H5 Hvr]
  · isplitl [H3]
    · iexact H3
    isplitl [H5]
    · iexact H5
    iexact Hvr
  iintro Hfl
  iapply (Transfers.wp_waitLocalO countersEmb 𝒱₀ (thrV d i) none (none : HIx 2) (rfl : arg5.view.dmaCredit = _)) $$ [Hfl HO]
  · isplitl [Hfl]
    · iexact Hfl
    isplitl [HO]
    · iexact HO
    iapply (Transfers.MayWaits.elim (SemLoc.dma v18_r0.sem)) $$ Hmw
  iintro ⟨⟨H5, H3⟩, Hvr, HO⟩
  have hl : ∀ x : S8192.Idx, arg5.view.read (Elt F) (arg5.view.write (Elt F) f5
      ((arg3.view.slice (Rect.unit (s := S262144) (k1_off1 i) S8192.size (k1_off1_inb i))).read (Elt F) fi) Finset.univ) x = lst (4 * base i + (x 0).val) := by
    intro x
    rw [View.read_write_univ]
    exact fetch_value (F := F) d i arg3 fi lst h3 x
  have hg5 : ∃ g5, g5 = arg5.view.write (Elt F) f5
      ((arg3.view.slice (Rect.unit (s := S262144) (k1_off1 i) S8192.size (k1_off1_inb i))).read (Elt F) fi) Finset.univ := ⟨_, rfl⟩
  obtain ⟨g5, hg5⟩ := hg5
  rw [← hg5] at hl
  ihave H5 := (Entails.of_eq (show (arg5.view.loc (thrV d i) ↦[arg5.view.set]{fullShare} _ : sProp 𝕄) = (arg5.view.loc (thrV d i) ↦[arg5.view.set]{fullShare} g5) from
    congrArg (fun f => (arg5.view.loc (thrV d i) ↦[arg5.view.set]{fullShare} f : sProp 𝕄)) hg5.symm)) $$ H5
  ihave H2 := (pointsTo_share (PosShare.mem_left_op_right q)).1 $$ H2
  icases H2 with ⟨H2l, H2r⟩
  ihave H5 := (pointsTo_share (PosShare.mem_left_op_right fullShare)).1 $$ H5
  icases H5 with ⟨H5l, H5r⟩
  iapply (gather_start (F := F) d i arg2 arg5 arg6 arg10.sem q.left fullShare.left ft g5 f6 lst hlt (4 * base i) hl ![0] 0 rfl)
  isplitl [H2l]
  · iexact H2l
  isplitl [H5l]
  · iexact H5l
  isplitl [H6]
  · iexact H6
  isplitl [Hv10]
  · iexact Hv10
  iintro Hg0
  iapply (gather_start (F := F) d i arg2 arg5 arg7 arg11.sem q.right fullShare.right ft g5 f7 lst hlt (4 * base i) hl ![128] 128 rfl)
  isplitl [H2r]
  · iexact H2r
  isplitl [H5r]
  · iexact H5r
  isplitl [H7]
  · iexact H7
  isplitl [Hv11]
  · iexact Hv11
  iintro Hg1
  rw [wp_bind]
  sl_for (fun n (_ : BitVec 32) => iprop(Transfers.MayWaits (thrV d i) (none : HIx 2) O
    ∗ tileInv (F := F) d i arg2 arg4 arg5 arg6 arg7 arg8 arg9 arg10 arg11 arg12 arg13 q fullShare ft g5 f0 fin lst O W n)) $$ [Hg0 Hg1 Hp0 Hp1 H8 H9 Hv12 Hv13 HO H3 Hvr]
  case region =>
    intro k acc
    refine .trans ?_ (trip_body (F := F) d i arg2 harg2 arg3 harg3 arg4 harg4 arg5 harg5 arg6 harg6 arg7 harg7 arg8 harg8 arg9 harg9 arg10 arg11 arg12 arg13 v18_r0 q fullShare ft g5 f0 fin lst O W _ k acc hlt hl hfin _)
    iintro ⟨#Hmw, H⟩
    isplitr
    · iexact Hmw
    isplitl [H]
    · iexact H
    iintro %r H
    isplitr
    · iexact Hmw
    iexact H
  isplitl [Hg0 Hg1 Hp0 Hp1 H8 H9 Hv12 Hv13 HO]
  · isplitr
    · iexact Hmw
    unfold tileInv
    rw [show place i 0 0 = 4 * base i + 0 from rfl, show place i 0 1 = 4 * base i + 128 from rfl]
    isplitl [Hg0]
    · iexact Hg0
    isplitl [Hg1]
    · iexact Hg1
    isplitl [Hp0 H8 Hv12]
    · iapply (side_of_free (F := F) d i arg4 arg8 f0 fin arg12.sem 0)
      isplitl [H8]
      · iexists _
        iexact H8
      isplitl [Hv12]
      · iexact Hv12
      iexact Hp0
    isplitl [Hp1 H9 Hv13]
    · iapply (side_of_free (F := F) d i arg4 arg9 f0 fin arg13.sem 1)
      isplitl [H9]
      · iexists _
        iexact H9
      isplitl [Hv13]
      · iexact Hv13
      iexact Hp1
    iexists _
    isplitr
    swap
    · iexact HO
    ipureintro
    intro p hp
    rcases Finset.mem_insert.mp hp with hp | hp
    · exact .inr (hp ▸ rfl)
    exact .inl hp
  iintro %r ⟨-, HI⟩
  unfold tileInv
  icases HI with ⟨Hg0, Hg1, Hs0, Hs1, HO⟩
  iapply (gather_wait (F := F) d i arg2 arg5 arg6 (κ' := .scVector) arg10.sem _ _ _ q.left fullShare.left ft g5 lst (place i 32 0) O W _ _)
  isplitr
  · iexact Hmw
  isplitl [Hg0]
  · iexact Hg0
  isplitl [HO]
  · iexact HO
  iintro ⟨⟨%f6', H6, -⟩, H2l, H5l, Hv10, HO⟩
  iapply (side_wait (F := F) d i arg4 arg8 f0 fin arg12.sem 0 _ _ _ rfl O W 32 (by decide) (by decide) _ _)
  isplitr
  · iexact Hmw
  isplitl [Hs0]
  · iexact Hs0
  isplitl [HO]
  · iexact HO
  iintro ⟨Hs0, HO⟩
  iapply (gather_wait (F := F) d i arg2 arg5 arg7 (κ' := .scVector) arg11.sem _ _ _ q.right fullShare.right ft g5 lst (place i 32 1) O W _ _)
  isplitr
  · iexact Hmw
  isplitl [Hg1]
  · iexact Hg1
  isplitl [HO]
  · iexact HO
  iintro ⟨⟨%f7', H7, -⟩, H2r, H5r, Hv11, HO⟩
  iapply (side_wait (F := F) d i arg4 arg9 f0 fin arg13.sem 1 _ _ _ rfl O W 32 (by decide) (by decide) _ _)
  isplitr
  · iexact Hmw
  isplitl [Hs1]
  · iexact Hs1
  isplitl [HO]
  · iexact HO
  iintro ⟨Hs1, HO⟩
  unfold free
  icases Hs0 with ⟨H8, Hv12, -, Hd0⟩
  icases Hs1 with ⟨H9, Hv13, -, Hd1⟩
  rw [Prog.pure_eq_ret, wp_ret]
  imodintro
  isplitl [H2l H2r]
  · iapply (pointsTo_share (PosShare.mem_left_op_right q)).2
    isplitl [H2l]
    · iexact H2l
    iexact H2r
  isplitl [H3]
  · iexact H3
  isplitl [Hd0]
  · iexact Hd0
  isplitl [Hd1]
  · iexact Hd1
  isplitr [HO]
  swap
  · iexact HO
  isplitl [H5l H5r]
  · iexists g5
    iapply (pointsTo_share (PosShare.mem_left_op_right fullShare)).2
    isplitl [H5l]
    · iexact H5l
    iexact H5r
  isplitl [H6]
  · iexists _
    iexact H6
  isplitl [H7]
  · iexists _
    iexact H7
  isplitl [H8]
  · iexact H8
  isplitl [H9]
  · iexact H9
  isplitl [Hv10]
  · iexact Hv10
  isplitl [Hv11]
  · iexact Hv11
  isplitl [Hv12]
  · iexact Hv12
  isplitl [Hv13]
  · iexact Hv13
  iexact Hvr

end Cert.Proof
end
-- ==== Proof.Tasks.lean ====
/-
  The two SparseCore calls as the launch theorem asks for them: what each tile is handed and hands back, and its task.
-/
module
public import proofs.«01_k».proof.Proof.TileRun

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 2) (Elt F) ℕ UU ℕ

/-- One call's data: the table it gathers from, the list of rows, what its result buffer held before, and that every
    word of the list names a row. -/
structure Job (F : FTy → Type) where
  tab : S262144x128.Idx → F .f32
  lst : ℕ → BitVec 32
  old : S65536x96.Idx → F .f32
  lt : ∀ p, (lst p).toNat < 262144

/-- The list as an array. -/
def Job.words (j : Job F) : S262144.Idx → Elt F .i32 := fun p => j.lst (p 0).val

/-- The call's result. -/
def Job.res (j : Job F) : S65536x96.Idx → F .f32 := poolAll j.tab j.lst

/-- A tile's place in the grid. -/
def tileAt (c : Fin (grid1.bound 0)) (s : Fin (grid1.bound 1)) : grid1.Coords :=
  fun | 0 => c | 1 => s | ⟨_ + 2, h⟩ => absurd h (Nat.not_lt.2 (Nat.le_add_left _ _))

/-- The read share of the table the tile at `i` holds. -/
abbrev tileShare (i : grid1.Coords) : PosShare TreeShare :=
  Transfers.shareTokN fullShare (16 * (i 0).val + (i 1).val)

section Pieces

variable (d : Dev nD) (i : grid1.Coords)
variable (arg2 : Memref sig .scVector .hbm S262144x128 .f32) (arg3 : Memref sig .scVector .hbm S262144 .i32)
  (arg4 : Memref sig .scVector .hbm S65536x96 .f32)
variable (ft : Buf (Elt F) (arg2.view.loc (thrV d i))) (fi : Buf (Elt F) (arg3.view.loc (thrV d i)))
  (f : Buf (Elt F) (arg4.view.loc (thrV d i)))

/-- What a tile is handed: a read share of the table, its part of the list, its blocks of the result. -/
def handed : sProp 𝕄 :=
  iprop((arg2.view.loc (thrV d i) ↦[arg2.view.set]{tileShare i} ft) ∗ (arg3.view.loc (thrV d i) ↦[iSet d i arg3]{fullShare} fi)
    ∗ pend (F := F) d i arg4 f 0 0 ∗ pend (F := F) d i arg4 f 1 0)

/-- What it hands back, its blocks written. -/
def back : sProp 𝕄 :=
  iprop((arg2.view.loc (thrV d i) ↦[arg2.view.set]{tileShare i} ft) ∗ (arg3.view.loc (thrV d i) ↦[iSet d i arg3]{fullShare} fi)
    ∗ done (F := F) d i arg4 f 0 32 ∗ done (F := F) d i arg4 f 1 32)

instance handed_storable : BI.Storable (upEmb : UEmb _ 𝕄) (handed (F := F) d i arg2 arg3 arg4 ft fi f) := by
  unfold handed pend; infer_instance

instance back_storable : BI.Storable (upEmb : UEmb _ 𝕄) (back (F := F) d i arg2 arg3 arg4 ft fi f) := by
  unfold back done; infer_instance

end Pieces

variable (J : Dev nD → Fin 2 → Job F)

/-- The first call's operands for the tile at `i`. -/
def handed0 (d : Dev nD) (i : grid1.Coords) : sProp 𝕄 :=
  handed (F := F) d i (Memref.whole main_v15_scv) (Memref.whole main_v11_scv) (Memref.whole main_v16_scv) (J d 0).tab (J d 0).words (J d 0).old

/-- The second call's operands for the tile at `i`. -/
def handed1 (d : Dev nD) (i : grid1.Coords) : sProp 𝕄 :=
  handed (F := F) d i (Memref.whole main_v22_scv) (Memref.whole main_v11_scv) (Memref.whole main_v23_scv) (J d 1).tab (J d 1).words (J d 1).old

/-- The first call's results from the tile at `i`. -/
def back0 (d : Dev nD) (i : grid1.Coords) : sProp 𝕄 :=
  back (F := F) d i (Memref.whole main_v15_scv) (Memref.whole main_v11_scv) (Memref.whole main_v16_scv) (J d 0).tab (J d 0).words (J d 0).res

/-- The second call's results from the tile at `i`. -/
def back1 (d : Dev nD) (i : grid1.Coords) : sProp 𝕄 :=
  back (F := F) d i (Memref.whole main_v22_scv) (Memref.whole main_v11_scv) (Memref.whole main_v23_scv) (J d 1).tab (J d 1).words (J d 1).res

/-- What one task of call `q` is handed. -/
def goOf (q : Fin 2) (d : Dev nD) (i : grid1.Coords) : sProp 𝕄 := match q with | 0 => handed0 J d i | 1 => handed1 J d i
/-- What one task of call `q` hands back. -/
def tdOf (q : Fin 2) (d : Dev nD) (i : grid1.Coords) : sProp 𝕄 := match q with | 0 => back0 J d i | 1 => back1 J d i

instance goOf_storable (q : Fin 2) (d : Dev nD) (i : grid1.Coords) : BI.Storable (upEmb : UEmb _ 𝕄) (goOf J q d i) := by
  unfold goOf; split
  · unfold handed0; infer_instance
  · unfold handed1; infer_instance

instance tdOf_storable (q : Fin 2) (d : Dev nD) (i : grid1.Coords) : BI.Storable (upEmb : UEmb _ 𝕄) (tdOf J q d i) := by
  unfold tdOf; split
  · unfold back0; infer_instance
  · unfold back1; infer_instance

theorem nCore_eq (q : Fin 2) : (K (F := F)).nCore q = 2 := by fin_cases q <;> rfl
theorem nSub_eq (q : Fin 2) : (K (F := F)).nSub q = 16 := by fin_cases q <;> rfl

/-- The task's place as the launch numbers it. -/
abbrev place0 (q : Fin 2) (c : Fin ((K (F := F)).nCore q)) (s : Fin ((K (F := F)).nSub q)) : grid1.Coords :=
  tileAt (c.cast (nCore_eq (F := F) q)) (s.cast (nSub_eq (F := F) q))

/-- What the handshakes carry: a SparseCore is handed what its tasks are, and hands back what they do. -/
def P : (K (F := F)).Pay (nD := nD) (Val := Elt F) (Name := ℕ) (U := UU) where
  st q d c := bigSep Finset.univ fun s : Fin ((K (F := F)).nSub q) => goOf J q d (place0 (F := F) q c s)
  dn q d c := bigSep Finset.univ fun s : Fin ((K (F := F)).nSub q) => tdOf J q d (place0 (F := F) q c s)
  go q d c s := goOf J q d (place0 (F := F) q c s)
  td q d c s := tdOf J q d (place0 (F := F) q c s)
  x _ _ := iprop(emp)

instance P_storable : (P J).IsStorable where
  st q d c := (inferInstance : BI.Storable (upEmb : UEmb _ 𝕄) (bigSep Finset.univ fun s : Fin ((K (F := F)).nSub q) => goOf J q d (place0 (F := F) q c s)))
  dn q d c := (inferInstance : BI.Storable (upEmb : UEmb _ 𝕄) (bigSep Finset.univ fun s : Fin ((K (F := F)).nSub q) => tdOf J q d (place0 (F := F) q c s)))
  go q d c s := goOf_storable J q d _
  td q d c s := tdOf_storable J q d _

theorem vecSplit (q : Fin 2) : (K (F := F)).VecSplit' (P J) q := by
  intro d c
  show (bigSep Finset.univ fun s : Fin ((K (F := F)).nSub q) => goOf J q d (place0 (F := F) q c s)) ⊢ |={Set.univ}=> iprop(
    (bigSep Finset.univ fun s : Fin ((K (F := F)).nSub q) => goOf J q d (place0 (F := F) q c s))
    ∗ ((bigSep Finset.univ fun s : Fin ((K (F := F)).nSub q) => tdOf J q d (place0 (F := F) q c s))
      -∗ bigSep Finset.univ fun s : Fin ((K (F := F)).nSub q) => tdOf J q d (place0 (F := F) q c s)))
  iintro H; imodintro
  isplitl [H]; · iexact H
  iintro H; iexact H

/-! ## A tile's own buffers and semaphores -/

/-- Five distinct members taken out of a separating product. -/
theorem bigSep_five {I : Type} [DecidableEq I] {s : Finset I} {Φ : I → sProp 𝕄} {a b c e f : I}
    (ha : a ∈ s) (hb : b ∈ s) (hc : c ∈ s) (he : e ∈ s) (hf : f ∈ s) (hn : [a, b, c, e, f].Nodup) :
    bigSep s Φ = iprop(Φ a ∗ Φ b ∗ Φ c ∗ Φ e ∗ Φ f ∗ bigSep (((((s.erase a).erase b).erase c).erase e).erase f) Φ) := by
  simp only [List.nodup_cons, List.mem_cons, List.not_mem_nil, _root_.or_false, not_or] at hn
  obtain ⟨⟨h1, h2, h3, h4⟩, ⟨h5, h6, h7⟩, ⟨h8, h9⟩, h10, -⟩ := hn
  have hb' : b ∈ s.erase a := Finset.mem_erase.2 ⟨Ne.symm h1, hb⟩
  have hc' : c ∈ (s.erase a).erase b := Finset.mem_erase.2 ⟨Ne.symm h5, Finset.mem_erase.2 ⟨Ne.symm h2, hc⟩⟩
  have he' : e ∈ ((s.erase a).erase b).erase c := Finset.mem_erase.2 ⟨Ne.symm h8, Finset.mem_erase.2 ⟨Ne.symm h6, Finset.mem_erase.2 ⟨Ne.symm h3, he⟩⟩⟩
  have hf' : f ∈ (((s.erase a).erase b).erase c).erase e :=
    Finset.mem_erase.2 ⟨Ne.symm h10, Finset.mem_erase.2 ⟨Ne.symm h9, Finset.mem_erase.2 ⟨Ne.symm h7, Finset.mem_erase.2 ⟨Ne.symm h4, hf⟩⟩⟩⟩
  rw [SparseCore.bigSep_erase' ha, SparseCore.bigSep_erase' hb', SparseCore.bigSep_erase' hc', SparseCore.bigSep_erase' he', SparseCore.bigSep_erase' hf']

variable (d : Dev nD) (i : grid1.Coords)

/-- A tile's own semaphores at zero: five named, and the rest. -/
theorem ownSems_five (s1 s2 s3 s4 s5 : SemLoc sig) (hs : ∀ s ∈ [s1, s2, s3, s4, s5], s.isScoped .scVector = true) (hn : [s1, s2, s3, s4, s5].Nodup) :
    (ownSems0 (thrV d i) : sProp 𝕄) = iprop(semVal (thrV d i, s1) 0 ∗ semVal (thrV d i, s2) 0 ∗ semVal (thrV d i, s3) 0 ∗ semVal (thrV d i, s4) 0
      ∗ semVal (thrV d i, s5) 0
      ∗ bigSep ((((((ownCells (thrV d i)).erase (thrV d i, s1)).erase (thrV d i, s2)).erase (thrV d i, s3)).erase (thrV d i, s4)).erase (thrV d i, s5)) fun g => semVal g 0) := by
  have hm : ∀ s ∈ [s1, s2, s3, s4, s5], ((thrV d i, s) : GSem nD τ sig) ∈ ownCells (thrV d i) := fun s h => mem_ownCells.2 ⟨rfl, hs s h⟩
  exact bigSep_five (hm _ (by simp)) (hm _ (by simp)) (hm _ (by simp)) (hm _ (by simp)) (hm _ (by simp))
    (hn.map (f := fun s => ((thrV d i, s) : GSem nD τ sig)) fun _ _ h => (Prod.mk.inj h).2)

/-- A tile's own buffers at some contents: five named, and the rest. -/
theorem ownBufs_five (b1 b2 b3 b4 b5 : Ref sig .scVector)
    (hs : ∀ b ∈ [b1, b2, b3, b4, b5], ((thrV d i).2.devRef b).owner = .proc (thrV d i).2) (hn : [b1, b2, b3, b4, b5].Nodup) :
    ∃ R : sProp 𝕄, (ownBufs (thrV d i) : sProp 𝕄)
      = iprop((∃ f, (thrV d i).loc b1 ↦{fullShare} f) ∗ (∃ f, (thrV d i).loc b2 ↦{fullShare} f) ∗ (∃ f, (thrV d i).loc b3 ↦{fullShare} f)
        ∗ (∃ f, (thrV d i).loc b4 ↦{fullShare} f) ∗ (∃ f, (thrV d i).loc b5 ↦{fullShare} f) ∗ R) := by
  have hm : ∀ b ∈ [b1, b2, b3, b4, b5], (thrV d i).2.devRef b ∈ ownRefs (τ := τ) (thrV d i).2 := fun b h => mem_ownRefs_of_owner (hs b h)
  exact ⟨_, bigSep_five (hm _ (by simp)) (hm _ (by simp)) (hm _ (by simp)) (hm _ (by simp)) (hm _ (by simp))
    (hn.map (f := fun b => (thrV d i).2.devRef b) (Proc.devRef_injective _))⟩

/-! ## The tasks -/

/-- A whole buffer's points-to, over the set its whole view names. -/
theorem whole_pts {b : Ref sig .scVector} :
    (iprop(∃ f, ((Memref.whole b).view.loc (thrV d i) ↦[(Memref.whole b).view.set]{fullShare} f)) : sProp 𝕄)
      = iprop(∃ f, (thrV d i).loc b ↦{fullShare} f) := by
  simp only [Memref.view_whole, View.set_whole]

section Task

variable (O : CellTallies nD τ sig (HIx 2)) (W : Waits sig (HIx 2))
variable (arg2 : Memref sig .scVector .hbm S262144x128 .f32) (harg2 : arg2.IsWhole) (arg3 : Memref sig .scVector .hbm S262144 .i32) (harg3 : arg3.IsWhole)
  (arg4 : Memref sig .scVector .hbm S65536x96 .f32) (harg4 : arg4.IsWhole) (arg5 : Memref sig .scVector .vmem S8192 .i32) (harg5 : arg5.IsWhole)
  (arg6 : Memref sig .scVector .vmem S128x128 .f32) (harg6 : arg6.IsWhole) (arg7 : Memref sig .scVector .vmem S128x128 .f32) (harg7 : arg7.IsWhole)
  (arg8 : Memref sig .scVector .vmem S32x96 .f32) (harg8 : arg8.IsWhole) (arg9 : Memref sig .scVector .vmem S32x96 .f32) (harg9 : arg9.IsWhole)
  (arg10 : DmaSems sig S_) (arg11 : DmaSems sig S_) (arg12 : DmaSems sig S_) (arg13 : DmaSems sig S_) (v18_r0 : DmaSems sig S_)
variable (ft : Buf (Elt F) (arg2.view.loc (thrV d i))) (fi : Buf (Elt F) (arg3.view.loc (thrV d i)))
  (f0 fin : Buf (Elt F) (arg4.view.loc (thrV d i))) (lst : ℕ → BitVec 32)

/-- A tile's task as the launch hands it over: its five buffers and five semaphores out of its own, and back. -/
theorem tile_task (B Q : sProp 𝕄)
    (hB : (ownBufs (thrV d i) : sProp 𝕄) = iprop(((∃ f, (arg5.view.loc (thrV d i) ↦[arg5.view.set]{fullShare} f)) ∗ (∃ f, (arg6.view.loc (thrV d i) ↦[arg6.view.set]{fullShare} f))
      ∗ (∃ f, (arg7.view.loc (thrV d i) ↦[arg7.view.set]{fullShare} f)) ∗ (∃ f, (arg8.view.loc (thrV d i) ↦[arg8.view.set]{fullShare} f))
      ∗ (∃ f, (arg9.view.loc (thrV d i) ↦[arg9.view.set]{fullShare} f)) ∗ B)))
    (hQ : (ownSems0 (thrV d i) : sProp 𝕄) = iprop(semVal (thrV d i, SemLoc.dma arg10.sem) 0 ∗ semVal (thrV d i, SemLoc.dma arg11.sem) 0 ∗ semVal (thrV d i, SemLoc.dma arg12.sem) 0
      ∗ semVal (thrV d i, SemLoc.dma arg13.sem) 0 ∗ semVal (thrV d i, SemLoc.dma v18_r0.sem) 0 ∗ Q))
    (hO : ∀ g, O g none = 0) (hlt : ∀ p, (lst p).toNat < 262144) (h3 : ∀ p : S262144.Idx, arg3.view.read (Elt F) fi p = lst (p 0).val)
    (hfin : arg4.view.read (Elt F) fin = poolAll (arg2.view.read (Elt F) ft) lst) :
    iprop(levAts (K (F := F)).L (K (F := F)).lev ∗ emp ∗ handed (F := F) d i arg2 arg3 arg4 ft fi f0
        ∗ scopedBufs (thrV d i) ∗ scopedSems0 (thrV d i) ∗ owes (thrV d i) O W)
      ⊢ wp frame (wpE (defs₀ (F := F)) 𝒱₀ (thrV d i) none) Set.univ (cc1__gather_max_kernel (F := F) i arg2 harg2 arg3 harg3 arg4 harg4 arg5 harg5 arg6 harg6 arg7 harg7 arg8 harg8 arg9 harg9 arg10 arg11 arg12 arg13 v18_r0)
        fun _ => iprop(back (F := F) d i arg2 arg3 arg4 ft fi fin ∗ scopedBufs (thrV d i) ∗ scopedSems0 (thrV d i)
          ∗ waited (F := F) d i O W) := by
  rw [show (scopedBufs (thrV d i) : sProp 𝕄) = ownBufs (thrV d i) from (K (F := F)).scopedBufs_V scFacts d _ _,
    show (scopedSems0 (thrV d i) : sProp 𝕄) = ownSems0 (thrV d i) from SparseCore.Cfg.scopedSems0_V (Val := Elt F) d _ _, hB, hQ]
  unfold handed
  iintro ⟨HL, -, ⟨H2, H3, Hp0, Hp1⟩, ⟨H5, H6, H7, H8, H9, HB⟩, ⟨Hs10, Hs11, Hs12, Hs13, Hsr, HQ⟩, HO⟩
  ihave HM := ((K (F := F)).mayWaits_none (thr := thrV d i) hO) $$ HL
  iapply (wp_wand_r frame (wpE (defs₀ (F := F)) 𝒱₀ (thrV d i) none) Set.univ
    (Q := fun _ => iprop((arg2.view.loc (thrV d i) ↦[arg2.view.set]{tileShare i} ft) ∗ (arg3.view.loc (thrV d i) ↦[iSet d i arg3]{fullShare} fi)
          ∗ done (F := F) d i arg4 fin 0 32 ∗ done (F := F) d i arg4 fin 1 32
          ∗ tileOwn (F := F) d i arg5 arg6 arg7 arg8 arg9 arg10 arg11 arg12 arg13 v18_r0 ∗ waited (F := F) d i O W)))
  isplitr [HB HQ]
  · iapply (tile_run (F := F) d i arg2 harg2 arg3 harg3 arg4 harg4 arg5 harg5 arg6 harg6 arg7 harg7 arg8 harg8 arg9 harg9 arg10 arg11 arg12 arg13 v18_r0
      (tileShare i) ft fi f0 fin lst O W hlt h3 hfin)
    unfold tileOwn
    isplitl [HM]; · iexact HM
    isplitl [H2]; · iexact H2
    isplitl [H3]; · iexact H3
    isplitl [Hp0]; · iexact Hp0
    isplitl [Hp1]; · iexact Hp1
    isplitr [HO]
    · isplitl [H5]; · iexact H5
      isplitl [H6]; · iexact H6
      isplitl [H7]; · iexact H7
      isplitl [H8]; · iexact H8
      isplitl [H9]; · iexact H9
      isplitl [Hs10]; · iexact Hs10
      isplitl [Hs11]; · iexact Hs11
      isplitl [Hs12]; · iexact Hs12
      isplitl [Hs13]; · iexact Hs13
      iexact Hsr
    · iexact HO
  · iintro %x
    unfold tileOwn back
    iintro ⟨H2, H3, Hd0, Hd1, ⟨H5, H6, H7, H8, H9, Hs10, Hs11, Hs12, Hs13, Hsr⟩, HO⟩
    isplitl [H2 H3 Hd0 Hd1]
    · isplitl [H2]; · iexact H2
      isplitl [H3]; · iexact H3
      isplitl [Hd0]; · iexact Hd0
      iexact Hd1
    isplitl [H5 H6 H7 H8 H9 HB]
    · isplitl [H5]; · iexact H5
      isplitl [H6]; · iexact H6
      isplitl [H7]; · iexact H7
      isplitl [H8]; · iexact H8
      isplitl [H9]; · iexact H9
      iexact HB
    isplitl [Hs10 Hs11 Hs12 Hs13 Hsr HQ]
    · isplitl [Hs10]; · iexact Hs10
      isplitl [Hs11]; · iexact Hs11
      isplitl [Hs12]; · iexact Hs12
      isplitl [Hs13]; · iexact Hs13
      isplitl [Hsr]; · iexact Hsr
      iexact HQ
    iexact HO

end Task

/-- The waits a task leaves, as the launch wants them. -/
theorem waits_weaken {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 65536

/-- What call 0 runs on a vector subcore. -/
theorem defs₀_call0 (c : Fin τ.nSC) (s : Fin τ.nSub) :
    defs₀ (F := F) (.scVector c s) 1 ()
      = SparseCore.onTile hcore1 hsub1 (fun c s => cc1__gather_max_kernel (tileAt c s)
          (Memref.whole main_v15_scv) (Memref.isWhole_whole _) (Memref.whole main_v11_scv) (Memref.isWhole_whole _) (Memref.whole main_v16_scv) (Memref.isWhole_whole _)
          (Memref.whole cc1_scratch0) (Memref.isWhole_whole _) (Memref.whole cc1_scratch1) (Memref.isWhole_whole _) (Memref.whole cc1_scratch2) (Memref.isWhole_whole _)
          (Memref.whole cc1_scratch3) (Memref.isWhole_whole _) (Memref.whole cc1_scratch4) (Memref.isWhole_whole _)
          cc1_scratch5 cc1_scratch6 cc1_scratch7 cc1_scratch8 cc1_scoped0) ⟨⟩ c s := rfl

/-- Call 0's task on a tile. -/
theorem tileObl0 : (K (F := F)).TileObl (D (F := F)) 𝒱 (P J) v₀ 0 := by
  intro d c i O W hO _ _
  simp only [show (P J).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_call0]; simp only [SparseCore.onTile, hci, and_self, ↓reduceDIte]
  obtain ⟨B, hB⟩ := ownBufs_five (F := F) d (tileAt ⟨_, hci.1⟩ ⟨_, hci.2⟩) cc1_scratch0 cc1_scratch1 cc1_scratch2 cc1_scratch3 cc1_scratch4
    (by simp only [List.forall_mem_cons, List.not_mem_nil, false_imp_iff, implies_true, and_true]; exact ⟨rfl, rfl, rfl, rfl, rfl⟩) (by decide)
  rw [← whole_pts, ← whole_pts, ← whole_pts, ← whole_pts, ← whole_pts] at hB
  exact (tile_task (F := F) d (tileAt ⟨_, hci.1⟩ ⟨_, hci.2⟩) O W (Memref.whole main_v15_scv) (Memref.isWhole_whole _) (Memref.whole main_v11_scv) (Memref.isWhole_whole _)
    (Memref.whole main_v16_scv) (Memref.isWhole_whole _)
    (Memref.whole cc1_scratch0) (Memref.isWhole_whole _) (Memref.whole cc1_scratch1) (Memref.isWhole_whole _) (Memref.whole cc1_scratch2) (Memref.isWhole_whole _)
    (Memref.whole cc1_scratch3) (Memref.isWhole_whole _) (Memref.whole cc1_scratch4) (Memref.isWhole_whole _)
    cc1_scratch5 cc1_scratch6 cc1_scratch7 cc1_scratch8 cc1_scoped0
    (J d 0).tab (J d 0).words (J d 0).old (J d 0).res (J d 0).lst B _ hB
    (ownSems_five (F := F) d (tileAt ⟨_, hci.1⟩ ⟨_, hci.2⟩) (SemLoc.dma cc1_scratch5.sem) (SemLoc.dma cc1_scratch6.sem) (SemLoc.dma cc1_scratch7.sem)
      (SemLoc.dma cc1_scratch8.sem) (SemLoc.dma cc1_scoped0.sem) (by decide) (by decide))
    hO (J d 0).lt (fun _ => rfl) rfl).trans (wp_mono frame _ _ fun _ => waits_weaken)

/-- What call 1 runs on a vector subcore. -/
theorem defs₀_call1 (c : Fin τ.nSC) (s : Fin τ.nSub) :
    defs₀ (F := F) (.scVector c s) 4 ()
      = SparseCore.onTile hcore1 hsub1 (fun c s => cc1__gather_max_kernel (tileAt c s)
          (Memref.whole main_v22_scv) (Memref.isWhole_whole _) (Memref.whole main_v11_scv) (Memref.isWhole_whole _) (Memref.whole main_v23_scv) (Memref.isWhole_whole _)
          (Memref.whole cc4_scratch0) (Memref.isWhole_whole _) (Memref.whole cc4_scratch1) (Memref.isWhole_whole _) (Memref.whole cc4_scratch2) (Memref.isWhole_whole _)
          (Memref.whole cc4_scratch3) (Memref.isWhole_whole _) (Memref.whole cc4_scratch4) (Memref.isWhole_whole _)
          cc4_scratch5 cc4_scratch6 cc4_scratch7 cc4_scratch8 cc4_scoped0) ⟨⟩ c s := rfl

/-- Call 1's task on a tile. -/
theorem tileObl1 : (K (F := F)).TileObl (D (F := F)) 𝒱 (P J) v₀ 1 := by
  intro d c i O W hO _ _
  simp only [show (P J).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 4 ())) _
  refine BI.Entails.trans ?_ (Pipeline.wp_liftProg (D (F := F)) (Pipeline.defs_kernel pcfgs defs₀) 𝒱₀ _ Set.univ none _ _)
  rw [defs₀_call1]; simp only [SparseCore.onTile, hci, and_self, ↓reduceDIte]
  obtain ⟨B, hB⟩ := ownBufs_five (F := F) d (tileAt ⟨_, hci.1⟩ ⟨_, hci.2⟩) cc4_scratch0 cc4_scratch1 cc4_scratch2 cc4_scratch3 cc4_scratch4
    (by simp only [List.forall_mem_cons, List.not_mem_nil, false_imp_iff, implies_true, and_true]; exact ⟨rfl, rfl, rfl, rfl, rfl⟩) (by decide)
  rw [← whole_pts, ← whole_pts, ← whole_pts, ← whole_pts, ← whole_pts] at hB
  exact (tile_task (F := F) d (tileAt ⟨_, hci.1⟩ ⟨_, hci.2⟩) O W (Memref.whole main_v22_scv) (Memref.isWhole_whole _) (Memref.whole main_v11_scv) (Memref.isWhole_whole _)
    (Memref.whole main_v23_scv) (Memref.isWhole_whole _)
    (Memref.whole cc4_scratch0) (Memref.isWhole_whole _) (Memref.whole cc4_scratch1) (Memref.isWhole_whole _) (Memref.whole cc4_scratch2) (Memref.isWhole_whole _)
    (Memref.whole cc4_scratch3) (Memref.isWhole_whole _) (Memref.whole cc4_scratch4) (Memref.isWhole_whole _)
    cc4_scratch5 cc4_scratch6 cc4_scratch7 cc4_scratch8 cc4_scoped0
    (J d 1).tab (J d 1).words (J d 1).old (J d 1).res (J d 1).lst B _ hB
    (ownSems_five (F := F) d (tileAt ⟨_, hci.1⟩ ⟨_, hci.2⟩) (SemLoc.dma cc4_scratch5.sem) (SemLoc.dma cc4_scratch6.sem) (SemLoc.dma cc4_scratch7.sem)
      (SemLoc.dma cc4_scratch8.sem) (SemLoc.dma cc4_scoped0.sem) (by decide) (by decide))
    hO (J d 1).lt (fun _ => rfl) rfl).trans (wp_mono frame _ _ fun _ => waits_weaken)

end Cert.Proof
end
-- ==== Proof.Split.lean ====
/-
  How the arrays a SparseCore call works on split into its tiles' parts, and join again.
-/
module
public import proofs.«01_k».proof.Proof.Tasks

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 2) (Elt F) ℕ UU ℕ

/-- The TensorCore of device `d`. -/
abbrev thrT (d : Dev nD) : Thread nD τ := SparseCore.T d

/-! ## The parts as sets of elements -/

/-- A tile's part of the list, as elements. -/
def listPart (i : grid1.Coords) : Finset S262144.Idx := (Rect.unit (s := S262144) (k1_off1 i) S8192.size (k1_off1_inb i)).set

theorem mem_listPart (i : grid1.Coords) (p : S262144.Idx) : p ∈ listPart i ↔ 4 * base i ≤ (p 0).val ∧ (p 0).val < 4 * base i + 8192 := by
  unfold listPart
  rw [Rect.mem_set_unit]
  have e : (k1_off1 i) 0 = 4 * base i := by
    rw [k1_off1_eq]
    show 16384 * (i 1).val + 8192 * (i 0).val = 4 * (4096 * (i 1).val + 2048 * (i 0).val)
    omega
  constructor
  · intro h
    have := h 0
    rw [e] at this
    exact this
  · intro h a
    match a with
    | 0 => rw [e]; exact h

theorem mem_brect (i : grid1.Coords) (t : Fin 32) (b : Fin 2) (p : S65536x96.Idx) :
    p ∈ (brect i t b).set ↔ base i + 64 * t.val + 32 * b.val ≤ (p 0).val ∧ (p 0).val < base i + 64 * t.val + 32 * b.val + 32 := by
  rw [Rect.mem_set_unit]
  constructor
  · intro h; exact h 0
  · intro h a
    match a with
    | 0 => exact h
    | 1 => exact ⟨Nat.zero_le _, by have := (p 1).isLt; show (p 1).val < 0 + 96; simpa using this⟩

theorem base_tileAt (c : Fin 2) (s : Fin 16) : base (tileAt c s) = 4096 * s.val + 2048 * c.val := rfl

theorem listPart_disjoint : ∀ x ∈ (Finset.univ : Finset (Fin 2 × Fin 16)), ∀ y ∈ (Finset.univ : Finset (Fin 2 × Fin 16)), x ≠ y →
    Disjoint (listPart (tileAt x.1 x.2)) (listPart (tileAt y.1 y.2)) := by
  rintro ⟨c, s⟩ - ⟨c', s'⟩ - hne
  rw [Finset.disjoint_left]
  intro p h h'
  rw [mem_listPart, base_tileAt] at h h'
  refine hne (Prod.ext (Fin.ext ?_) (Fin.ext ?_)) <;> dsimp only at h h' ⊢ <;> omega

theorem listPart_cover : (Finset.univ : Finset (Fin 2 × Fin 16)).biUnion (fun x => listPart (tileAt x.1 x.2)) = Finset.univ := by
  ext p
  simp only [Finset.mem_biUnion, Finset.mem_univ, true_and, iff_true]
  have hp : (p 0).val < 262144 := (p 0).isLt
  refine ⟨(⟨(p 0).val / 8192 % 2, by omega⟩, ⟨(p 0).val / 16384, by omega⟩), ?_⟩
  rw [mem_listPart, base_tileAt]
  dsimp only
  omega

/-- The blocks of the result: a tile, a trip, a side. -/
abbrev BlockIx : Type := (Fin 2 × Fin 16) × (Fin 2 × Fin 32)

/-- A block's elements. -/
def blockPart (x : BlockIx) : Finset S65536x96.Idx := (brect (tileAt x.1.1 x.1.2) x.2.2 x.2.1).set

theorem blockPart_disjoint : ∀ x ∈ (Finset.univ : Finset BlockIx), ∀ y ∈ (Finset.univ : Finset BlockIx), x ≠ y → Disjoint (blockPart x) (blockPart y) := by
  rintro ⟨⟨c, s⟩, b, t⟩ - ⟨⟨c', s'⟩, b', t'⟩ - hne
  rw [Finset.disjoint_left]
  intro p h h'
  unfold blockPart at h h'
  rw [mem_brect, base_tileAt] at h h'
  dsimp only at h h'
  refine hne (Prod.ext (Prod.ext (Fin.ext ?_) (Fin.ext ?_)) (Prod.ext (Fin.ext ?_) (Fin.ext ?_))) <;> dsimp only <;> omega

theorem blockPart_cover : (Finset.univ : Finset BlockIx).biUnion blockPart = Finset.univ := by
  ext p
  simp only [Finset.mem_biUnion, Finset.mem_univ, true_and, iff_true]
  have hp : (p 0).val < 65536 := (p 0).isLt
  refine ⟨((⟨(p 0).val / 2048 % 2, by omega⟩, ⟨(p 0).val / 4096, by omega⟩), (⟨(p 0).val / 32 % 2, by omega⟩, ⟨(p 0).val / 64 % 32, by omega⟩)), ?_⟩
  unfold blockPart
  rw [mem_brect, base_tileAt]
  dsimp only
  omega

/-! ## The points-tos -/

/-- A product over pairs, one component at a time. -/
theorem bigSep_pairs {α β : Type} [Fintype α] [Fintype β] [DecidableEq α] [DecidableEq β] (Φ : α × β → sProp 𝕄) :
    bigSep Finset.univ Φ = bigSep Finset.univ fun a => bigSep Finset.univ fun b => Φ (a, b) := by
  rw [← Finset.univ_product_univ, SparseCore.bigSep_product]

/-- A table at the full share is a remainder and one read share for each tile. -/
theorem table_split {ℓ : Loc nD τ sig} (f : Buf (Elt F) ℓ) :
    (ℓ ↦{fullShare} f : sProp 𝕄) = iprop((ℓ ↦{Transfers.shareDrop fullShare 32} f)
      ∗ bigSep Finset.univ fun c : Fin 2 => bigSep Finset.univ fun s : Fin 16 => ℓ ↦{tileShare (tileAt c s)} f) := by
  rw [BI.equiv_iff.mp ⟨Transfers.pointsTo_toks_split (Val := Elt F) (ℓ := ℓ) (S := Finset.univ) (f := f) fullShare 32, Transfers.pointsTo_toks_join fullShare 32⟩]
  rw [bigSep_univ_equiv (finProdFinEquiv (m := 2) (n := 16)) (Φ := fun k : Fin 32 => (ℓ ↦{Transfers.shareTok fullShare 32 k} f : sProp 𝕄)), bigSep_pairs]
  refine congrArg (fun X => iprop((ℓ ↦{Transfers.shareDrop fullShare 32} f) ∗ X)) (bigSep_congr fun c _ => bigSep_congr fun s _ => ?_)
  show (ℓ ↦{Transfers.shareTokN fullShare (s.val + 16 * c.val)} f : sProp 𝕄) = ℓ ↦{Transfers.shareTokN fullShare (16 * c.val + s.val)} f
  rw [Nat.add_comm]

/-- The list is the tiles' parts of it. -/
theorem list_split (d : Dev nD) (f : S262144.Idx → Elt F .i32) :
    ((thrT d).loc main_v11 ↦{fullShare} f : sProp 𝕄)
      = bigSep Finset.univ fun c : Fin 2 => bigSep Finset.univ fun s : Fin 16 => (thrT d).loc main_v11 ↦[listPart (tileAt c s)]{fullShare} f := by
  have h : (_ : sProp 𝕄) = _ := pointsTo_biUnion (ℓ := (thrT d).loc main_v11) (q := fullShare) (f := f) (Val := Elt F) (Finset.univ : Finset (Fin 2 × Fin 16)) (fun x => listPart (tileAt x.1 x.2)) listPart_disjoint
  rw [listPart_cover] at h
  exact h.trans (bigSep_pairs _)

/-- The first call's result is its blocks. -/
theorem out_split0 (d : Dev nD) (f : S65536x96.Idx → F .f32) :
    ((thrT d).loc main_v16 ↦{fullShare} f : sProp 𝕄)
      = bigSep Finset.univ fun c : Fin 2 => bigSep Finset.univ fun s : Fin 16 => bigSep Finset.univ fun b : Fin 2 => bigSep Finset.univ fun t : Fin 32 =>
          (thrT d).loc main_v16 ↦[blockPart ((c, s), (b, t))]{fullShare} f := by
  have h : (_ : sProp 𝕄) = _ := pointsTo_biUnion (ℓ := (thrT d).loc main_v16) (q := fullShare) (f := f) (Val := Elt F) (Finset.univ : Finset BlockIx) blockPart blockPart_disjoint
  rw [blockPart_cover] at h
  exact h.trans ((bigSep_pairs _).trans ((bigSep_pairs _).trans (bigSep_congr fun c _ => bigSep_congr fun s _ => bigSep_pairs _)))

/-- The second call's result is its blocks. -/
theorem out_split1 (d : Dev nD) (f : S65536x96.Idx → F .f32) :
    ((thrT d).loc main_v23 ↦{fullShare} f : sProp 𝕄)
      = bigSep Finset.univ fun c : Fin 2 => bigSep Finset.univ fun s : Fin 16 => bigSep Finset.univ fun b : Fin 2 => bigSep Finset.univ fun t : Fin 32 =>
          (thrT d).loc main_v23 ↦[blockPart ((c, s), (b, t))]{fullShare} f := by
  have h : (_ : sProp 𝕄) = _ := pointsTo_biUnion (ℓ := (thrT d).loc main_v23) (q := fullShare) (f := f) (Val := Elt F) (Finset.univ : Finset BlockIx) blockPart blockPart_disjoint
  rw [blockPart_cover] at h
  exact h.trans ((bigSep_pairs _).trans ((bigSep_pairs _).trans (bigSep_congr fun c _ => bigSep_congr fun s _ => bigSep_pairs _)))

section Handed

variable (d : Dev nD) (i : grid1.Coords)

theorem iSet_whole : iSet d i (Memref.whole main_v11_scv) = listPart i := by
  show ((View.whole (main_v11_scv : Ref sig .scVector)).slice (Rect.unit (s := S262144) (k1_off1 i) S8192.size (k1_off1_inb i))).set = _
  rw [View.set_slice]; exact Finset.map_refl

/-- What a tile is handed for the first call, over the parts. -/
theorem handed_parts0 (ft : S262144x128.Idx → F .f32) (fi : S262144.Idx → Elt F .i32) (f : S65536x96.Idx → F .f32) (c : Fin 2) (s : Fin 16) :
    (handed (F := F) d (tileAt c s) (Memref.whole main_v15_scv) (Memref.whole main_v11_scv) (Memref.whole main_v16_scv) ft fi f : sProp 𝕄)
      = iprop(((thrT d).loc main_v15 ↦{tileShare (tileAt c s)} ft) ∗ ((thrT d).loc main_v11 ↦[listPart (tileAt c s)]{fullShare} fi)
        ∗ bigSep Finset.univ fun b : Fin 2 => bigSep Finset.univ fun t : Fin 32 => (thrT d).loc main_v16 ↦[blockPart ((c, s), (b, t))]{fullShare} f) := by
  have hb : ∀ (t : Fin 32) (b : Fin 2), bSet d (tileAt c s) (Memref.whole main_v16_scv) t b = blockPart ((c, s), (b, t)) := fun t b => by
    show ((View.whole (main_v16_scv : Ref sig .scVector)).slice (brect (tileAt c s) t b)).set = _
    rw [View.set_slice]; exact Finset.map_refl
  unfold handed pend
  rw [bigSep_fin_two, iSet_whole]
  simp only [hb, Nat.zero_le, Finset.filter_true, Memref.view_whole, View.set_whole]
  rfl

/-- What a tile is handed for the second call, over the parts. -/
theorem handed_parts1 (ft : S262144x128.Idx → F .f32) (fi : S262144.Idx → Elt F .i32) (f : S65536x96.Idx → F .f32) (c : Fin 2) (s : Fin 16) :
    (handed (F := F) d (tileAt c s) (Memref.whole main_v22_scv) (Memref.whole main_v11_scv) (Memref.whole main_v23_scv) ft fi f : sProp 𝕄)
      = iprop(((thrT d).loc main_v22 ↦{tileShare (tileAt c s)} ft) ∗ ((thrT d).loc main_v11 ↦[listPart (tileAt c s)]{fullShare} fi)
        ∗ bigSep Finset.univ fun b : Fin 2 => bigSep Finset.univ fun t : Fin 32 => (thrT d).loc main_v23 ↦[blockPart ((c, s), (b, t))]{fullShare} f) := by
  have hb : ∀ (t : Fin 32) (b : Fin 2), bSet d (tileAt c s) (Memref.whole main_v23_scv) t b = blockPart ((c, s), (b, t)) := fun t b => by
    show ((View.whole (main_v23_scv : Ref sig .scVector)).slice (brect (tileAt c s) t b)).set = _
    rw [View.set_slice]; exact Finset.map_refl
  unfold handed pend
  rw [bigSep_fin_two, iSet_whole]
  simp only [hb, Nat.zero_le, Finset.filter_true, Memref.view_whole, View.set_whole]
  rfl

/-- What a tile hands back is what it was handed, at the results. -/
theorem back_eq (arg2 : Memref sig .scVector .hbm S262144x128 .f32) (arg3 : Memref sig .scVector .hbm S262144 .i32) (arg4 : Memref sig .scVector .hbm S65536x96 .f32)
    (ft : Buf (Elt F) (arg2.view.loc (thrV d i))) (fi : Buf (Elt F) (arg3.view.loc (thrV d i))) (f : Buf (Elt F) (arg4.view.loc (thrV d i))) :
    (back (F := F) d i arg2 arg3 arg4 ft fi f : sProp 𝕄) = handed (F := F) d i arg2 arg3 arg4 ft fi f := by
  unfold back handed done pend
  simp only [Nat.zero_le, Fin.is_lt]

end Handed

/-- The first call's arrays, dealt to its tiles, the table's remainder kept. -/
theorem deal0 (d : Dev nD) (ft : S262144x128.Idx → F .f32) (fi : S262144.Idx → Elt F .i32) (f : S65536x96.Idx → F .f32) :
    (iprop(((thrT d).loc main_v15 ↦{fullShare} ft) ∗ ((thrT d).loc main_v11 ↦{fullShare} fi) ∗ ((thrT d).loc main_v16 ↦{fullShare} f)) : sProp 𝕄)
      = iprop(((thrT d).loc main_v15 ↦{Transfers.shareDrop fullShare 32} ft) ∗ bigSep Finset.univ fun c : Fin 2 => bigSep Finset.univ fun s : Fin 16 =>
          handed (F := F) d (tileAt c s) (Memref.whole main_v15_scv) (Memref.whole main_v11_scv) (Memref.whole main_v16_scv) ft fi f) := by
  simp only [handed_parts0, bigSep_sep']
  rw [table_split, list_split, out_split0]
  exact (BI.equiv_iff.mp ⟨BI.sep_assoc, BI.sep_assoc'⟩)

/-- The second call's arrays, dealt to its tiles, the table's remainder kept. -/
theorem deal1 (d : Dev nD) (ft : S262144x128.Idx → F .f32) (fi : S262144.Idx → Elt F .i32) (f : S65536x96.Idx → F .f32) :
    (iprop(((thrT d).loc main_v22 ↦{fullShare} ft) ∗ ((thrT d).loc main_v11 ↦{fullShare} fi) ∗ ((thrT d).loc main_v23 ↦{fullShare} f)) : sProp 𝕄)
      = iprop(((thrT d).loc main_v22 ↦{Transfers.shareDrop fullShare 32} ft) ∗ bigSep Finset.univ fun c : Fin 2 => bigSep Finset.univ fun s : Fin 16 =>
          handed (F := F) d (tileAt c s) (Memref.whole main_v22_scv) (Memref.whole main_v11_scv) (Memref.whole main_v23_scv) ft fi f) := by
  simp only [handed_parts1, bigSep_sep']
  rw [table_split, list_split, out_split1]
  exact (BI.equiv_iff.mp ⟨BI.sep_assoc, BI.sep_assoc'⟩)

end Cert.Proof
end
-- ==== Proof.Body.lean ====
/-
  The TensorCore kernels of the program: what each leaves in the block it writes.
-/
module
public import proofs.«01_k».proof.Proof.Split

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 2) (Elt F) ℕ UU ℕ

/-- A TensorCore buffer whole at `f`. -/
abbrev pt (c : Dev nD) {sp : Space} {S : Shape} {e : EltTy} (M : Memref sig .tc sp S e) (f : Buf (Elt F) (M.view.loc (thrT c))) : sProp 𝕄 :=
  M.view.loc (thrT c) ↦{fullShare} f

theorem piece_here {α : Type} {P : α → Prop} {a : α} {L : List α} (h : P a) : ∃ q ∈ a :: L, P q := ⟨a, List.mem_cons_self, h⟩
theorem piece_later {α : Type} {P : α → Prop} {a : α} {L : List α} (h : ∃ q ∈ L, P q) : ∃ q ∈ a :: L, P q :=
  let ⟨q, hq, hp⟩ := h; ⟨q, List.mem_cons_of_mem _ hq, hp⟩

/-- The block the output transposition leaves: its first two axes taken to the last. -/
def outT (g : S8x256x96.Idx → F .f32) : S96x8x256.Idx → F .f32 := fun p => g (fun | 0 => p 1 | 1 => p 2 | 2 => p 0)

/-- A row of the block, loaded, transposed and stored, is that row of the block's transposition. -/
theorem outT_piece (M0 : Memref sig .tc .vmem S8x256x96 .f32) (f0 : M0.view.ty.Contents (Elt F)) (k : ℕ) (hk : k < 8)
    (inb : ∀ a, ![k, 0, 0] a + S1x256x96.size a ≤ S8x256x96.size a) (inb' : ∀ a, ![0, k, 0] a + S96x1x256.size a ≤ S96x8x256.size a)
    (x : S96x1x256.Idx) :
    shapeCast S96x1x256 (transpose S96x256 [1, 0] (shapeCast S256x96 (M0.view.readAt (Elt F) (Rect.unit (s := S8x256x96) ![k, 0, 0] S1x256x96.size inb).toLoadRect f0)
        shapeCasts_S1x256x96_S256x96) transposes_S256x96_p1_0_S96x256) shapeCasts_S96x256_S96x1x256 x
      = outT (M0.view.read (Elt F) f0) ((Rect.unit (s := S96x8x256) ![0, k, 0] S96x1x256.size inb').emb x) := by
  have h1 : (x 1).val < 1 := (x 1).isLt
  refine (shapeCast_apply _ _ x (fun | 0 => x 0 | 1 => x 2 : S96x256.Idx) ?_).trans ?_
  · rw [Shape.rowMajor_val_two, Shape.rowMajor_val_three]
    show (x 0).val * 256 + (x 2).val = ((x 0).val * 1 + (x 1).val) * 256 + (x 2).val
    omega
  refine (transpose_apply _ _ _ _ (fun | 0 => x 2 | 1 => x 0 : S256x96.Idx) fun b => ?_).trans ?_
  · match b with
    | 0 => rfl
    | 1 => rfl
  refine (shapeCast_apply _ _ _ (fun | 0 => ⟨0, Nat.one_pos⟩ | 1 => x 2 | 2 => x 0 : S1x256x96.Idx) ?_).trans ?_
  · rw [Shape.rowMajor_val_two, Shape.rowMajor_val_three]
    show (0 * 256 + (x 2).val) * 96 + (x 0).val = (x 2).val * 96 + (x 0).val
    omega
  show M0.view.read (Elt F) f0 _ = M0.view.read (Elt F) f0 _
  refine congrArg _ (funext fun a => Fin.ext ?_)
  match a with
  | 0 => show k + 1 * 0 = k + 1 * (x 1).val; omega
  | 1 => show 0 + 1 * (x 2).val = 0 + 1 * (x 2).val; rfl
  | 2 => show 0 + 1 * (x 0).val = 0 + 1 * (x 0).val; rfl

/-- A row of the output block holds the elements of that row. -/
theorem outT_mem (y : S96x8x256.Idx) (k : ℕ) (inb : ∀ a, ![0, k, 0] a + S96x1x256.size a ≤ S96x8x256.size a) (e : (y 1).val = k) :
    y ∈ (Rect.unit (s := S96x8x256) ![0, k, 0] S96x1x256.size inb).set := by
  rw [Rect.mem_set_unit]
  intro a
  match a with
  | 0 => exact ⟨Nat.zero_le _, by have := (y 0).isLt; show (y 0).val < 0 + 96; rw [Nat.zero_add]; exact this⟩
  | 1 => show k ≤ (y 1).val ∧ (y 1).val < k + 1; omega
  | 2 => exact ⟨Nat.zero_le _, by have := (y 2).isLt; show (y 2).val < 0 + 256; rw [Nat.zero_add]; exact this⟩

/-- The output transposition's body: from both staging buffers whole it leaves the second reading the first's
    transposition. -/
theorem outT_run (i : grid2.Coords) (c : Dev nD) (M0 : Memref sig .tc .vmem S8x256x96 .f32) (h0 : M0.IsWhole) (M1 : Memref sig .tc .vmem S96x8x256 .f32) (h1 : M1.IsWhole)
    (f0 : Buf (Elt F) (M0.view.loc (thrT c))) (f1 : Buf (Elt F) (M1.view.loc (thrT c))) (E : Set ℕ) (Q : PUnit → sProp 𝕄) :
    iprop(pt c M0 f0 ∗ pt c M1 f1 ∗ (∀ W : Buf (Elt F) (M1.view.loc (thrT c)), iprop(⌜M1.view.read (Elt F) W = outT (M0.view.read (Elt F) f0)⌝ ∗ pt c M0 f0 ∗ pt c M1 W) -∗ Q ⟨⟩))
      ⊢ wp frame (wpE (defs₀ (F := F)) 𝒱₀ (thrT c) none) E (cc2__out_t_kernel i M0 h0 M1 h1) Q := by
  iintro ⟨H0, H1, Hk⟩
  sl_exec!
  sl_step
  iapply Hk
  isplitr; swap
  · isplitl [H0]; · iexact H0
    iexact H1
  · ipureintro
    have hc : ∀ y : S96x8x256.Idx, ∃ p ∈ outT_run.sl.H1_8 c M0 f0, y ∈ p.1.set := fun y => by
      unfold outT_run.sl.H1_8
      have h8 : (y 1).val < 8 := (y 1).isLt
      rcases (by omega : (y 1).val = 7 ∨ (y 1).val = 6 ∨ (y 1).val = 5 ∨ (y 1).val = 4 ∨ (y 1).val = 3 ∨ (y 1).val = 2 ∨ (y 1).val = 1 ∨ (y 1).val = 0) with e | e | e | e | e | e | e | e
      · exact (piece_here (outT_mem y 7 (by decide) e))
      · refine piece_later ?_; exact (piece_here (outT_mem y 6 (by decide) e))
      · refine piece_later ?_; refine piece_later ?_; exact (piece_here (outT_mem y 5 (by decide) e))
      · refine piece_later ?_; refine piece_later ?_; refine piece_later ?_; exact (piece_here (outT_mem y 4 (by decide) e))
      · refine piece_later ?_; refine piece_later ?_; refine piece_later ?_; refine piece_later ?_; exact (piece_here (outT_mem y 3 (by decide) e))
      · refine piece_later ?_; refine piece_later ?_; refine piece_later ?_; refine piece_later ?_; refine piece_later ?_; exact (piece_here (outT_mem y 2 (by decide) e))
      · refine piece_later ?_; refine piece_later ?_; refine piece_later ?_; refine piece_later ?_; refine piece_later ?_; refine piece_later ?_; exact (piece_here (outT_mem y 1 (by decide) e))
      · refine piece_later ?_; refine piece_later ?_; refine piece_later ?_; refine piece_later ?_; refine piece_later ?_; refine piece_later ?_; refine piece_later ?_; exact (piece_here (outT_mem y 0 (by decide) e))
    rw [View.read_writes_eq_canon _ _ _ hc]
    funext y
    refine View.canon_apply_of_pieces _ _ ?_ y (hc y)
    unfold outT_run.sl.H1_8
    simp only [List.forall_mem_cons, List.not_mem_nil, false_imp_iff, implies_true, _root_.and_true]
    exact ⟨outT_piece M0 f0 7 (by omega) _ _, outT_piece M0 f0 6 (by omega) _ _, outT_piece M0 f0 5 (by omega) _ _, outT_piece M0 f0 4 (by omega) _ _,
      outT_piece M0 f0 3 (by omega) _ _, outT_piece M0 f0 2 (by omega) _ _, outT_piece M0 f0 1 (by omega) _ _, outT_piece M0 f0 0 (by omega) _ _⟩

/-- The block the padding transposition leaves: its first axis taken to the last, which is padded with zeros. -/
def padT (g : S96x8x512.Idx → F .f32) : S8x512x128.Idx → F .f32 := fun p =>
  if h : (p 2).val < 96 then g (fun | 0 => ⟨(p 2).val, h⟩ | 1 => p 0 | 2 => p 1) else Scalar.ofBits .f32 0x00000000#32

/-- A plane of the block, loaded, transposed and stored, is the first 96 lanes of that row of the padded transposition. -/
theorem padT_piece (M0 : Memref sig .tc .vmem S96x8x512 .f32) (f0 : M0.view.ty.Contents (Elt F)) (k : ℕ) (hk : k < 8)
    (inb : ∀ a, ![0, k, 0] a + S96x1x512.size a ≤ S96x8x512.size a) (inb' : ∀ a, ![k, 0, 0] a + S1x512x96.size a ≤ S8x512x128.size a)
    (x : S1x512x96.Idx) :
    shapeCast S1x512x96 (transpose S512x96 [1, 0] (shapeCast S96x512 (M0.view.readAt (Elt F) (Rect.unit (s := S96x8x512) ![0, k, 0] S96x1x512.size inb).toLoadRect f0)
        shapeCasts_S96x1x512_S96x512) transposes_S96x512_p1_0_S512x96) shapeCasts_S512x96_S1x512x96 x
      = padT (M0.view.read (Elt F) f0) ((Rect.unit (s := S8x512x128) ![k, 0, 0] S1x512x96.size inb').emb x) := by
  have h0 : (x 0).val < 1 := (x 0).isLt
  have h2 : (x 2).val < 96 := (x 2).isLt
  refine (shapeCast_apply _ _ x (fun | 0 => x 1 | 1 => x 2 : S512x96.Idx) ?_).trans ?_
  · rw [Shape.rowMajor_val_two, Shape.rowMajor_val_three]
    show (x 1).val * 96 + (x 2).val = ((x 0).val * 512 + (x 1).val) * 96 + (x 2).val
    omega
  refine (transpose_apply _ _ _ _ (fun | 0 => x 2 | 1 => x 1 : S96x512.Idx) fun b => ?_).trans ?_
  · match b with
    | 0 => rfl
    | 1 => rfl
  refine (shapeCast_apply _ _ _ (fun | 0 => x 2 | 1 => ⟨0, Nat.one_pos⟩ | 2 => x 1 : S96x1x512.Idx) ?_).trans ?_
  · rw [Shape.rowMajor_val_two, Shape.rowMajor_val_three]
    show ((x 2).val * 1 + 0) * 512 + (x 1).val = (x 2).val * 512 + (x 1).val
    omega
  have hl : ((Rect.unit (s := S8x512x128) ![k, 0, 0] S1x512x96.size inb').emb x 2).val < 96 := by
    show 0 + 1 * (x 2).val < 96; omega
  unfold padT
  rw [dif_pos hl]
  show M0.view.read (Elt F) f0 _ = M0.view.read (Elt F) f0 _
  refine congrArg _ (funext fun a => Fin.ext ?_)
  match a with
  | 0 => show 0 + 1 * (x 2).val = 0 + 1 * (x 2).val; rfl
  | 1 => show k + 1 * 0 = k + 1 * (x 0).val; omega
  | 2 => show 0 + 1 * (x 1).val = 0 + 1 * (x 1).val; rfl

/-- The zeros stored beside it are its other lanes. -/
theorem padT_zero (g : S96x8x512.Idx → F .f32) (k : ℕ) (inb' : ∀ a, ![k, 0, 96] a + S1x512x32.size a ≤ S8x512x128.size a) (x : S1x512x32.Idx) :
    shapeCast S1x512x32 (broadcast S512x32 (Scalar.ofBits .f32 0x00000000#32 : F .f32)) shapeCasts_S512x32_S1x512x32 x
      = padT g ((Rect.unit (s := S8x512x128) ![k, 0, 96] S1x512x32.size inb').emb x) := by
  have hl : ¬ ((Rect.unit (s := S8x512x128) ![k, 0, 96] S1x512x32.size inb').emb x 2).val < 96 := by
    show ¬ (96 + 1 * (x 2).val < 96); omega
  unfold padT
  rw [dif_neg hl]
  rfl

/-- A row of the padded block is its first lanes and its other lanes. -/
theorem padT_mem (y : S8x512x128.Idx) (k : ℕ) (inb : ∀ a, ![k, 0, 0] a + S1x512x96.size a ≤ S8x512x128.size a)
    (inb' : ∀ a, ![k, 0, 96] a + S1x512x32.size a ≤ S8x512x128.size a) (e : (y 0).val = k) :
    y ∈ (Rect.unit (s := S8x512x128) ![k, 0, 96] S1x512x32.size inb').set ∨ y ∈ (Rect.unit (s := S8x512x128) ![k, 0, 0] S1x512x96.size inb).set := by
  rw [Rect.mem_set_unit, Rect.mem_set_unit]
  have h1 : (y 1).val < 512 := (y 1).isLt
  have h2 : (y 2).val < 128 := (y 2).isLt
  rcases Nat.lt_or_ge (y 2).val 96 with h | h
  · refine Or.inr fun a => ?_
    match a with
    | 0 => show k ≤ (y 0).val ∧ (y 0).val < k + 1; omega
    | 1 => show 0 ≤ (y 1).val ∧ (y 1).val < 0 + 512; omega
    | 2 => show 0 ≤ (y 2).val ∧ (y 2).val < 0 + 96; omega
  · refine Or.inl fun a => ?_
    match a with
    | 0 => show k ≤ (y 0).val ∧ (y 0).val < k + 1; omega
    | 1 => show 0 ≤ (y 1).val ∧ (y 1).val < 0 + 512; omega
    | 2 => show 96 ≤ (y 2).val ∧ (y 2).val < 96 + 32; omega

theorem piece_pair {α : Type} {P : α → Prop} {a b : α} {L : List α} (h : P a ∨ P b) : ∃ q ∈ a :: b :: L, P q :=
  h.elim piece_here fun h => piece_later (piece_here h)

/-- The padding transposition's body: from both staging buffers whole it leaves the second reading the first's
    padded transposition. -/
theorem padT_run (i : grid0.Coords) (c : Dev nD) (M0 : Memref sig .tc .vmem S96x8x512 .f32) (h0 : M0.IsWhole) (M1 : Memref sig .tc .vmem S8x512x128 .f32) (h1 : M1.IsWhole)
    (f0 : Buf (Elt F) (M0.view.loc (thrT c))) (f1 : Buf (Elt F) (M1.view.loc (thrT c))) (E : Set ℕ) (Q : PUnit → sProp 𝕄) :
    iprop(pt c M0 f0 ∗ pt c M1 f1 ∗ (∀ W : Buf (Elt F) (M1.view.loc (thrT c)), iprop(⌜M1.view.read (Elt F) W = padT (M0.view.read (Elt F) f0)⌝ ∗ pt c M0 f0 ∗ pt c M1 W) -∗ Q ⟨⟩))
      ⊢ wp frame (wpE (defs₀ (F := F)) 𝒱₀ (thrT c) none) E (cc0__transpose_pad_kernel i M0 h0 M1 h1) Q := by
  iintro ⟨H0, H1, Hk⟩
  sl_exec!
  sl_step
  iapply Hk
  isplitr; swap
  · isplitl [H0]; · iexact H0
    iexact H1
  · ipureintro
    have hc : ∀ y : S8x512x128.Idx, ∃ p ∈ padT_run.sl.H1_16 c M0 f0, y ∈ p.1.set := fun y => by
      unfold padT_run.sl.H1_16
      have h8 : (y 0).val < 8 := (y 0).isLt
      rcases (by omega : (y 0).val = 7 ∨ (y 0).val = 6 ∨ (y 0).val = 5 ∨ (y 0).val = 4 ∨ (y 0).val = 3 ∨ (y 0).val = 2 ∨ (y 0).val = 1 ∨ (y 0).val = 0) with e | e | e | e | e | e | e | e
      · exact piece_pair (padT_mem y 7 (by decide) (by decide) e)
      · refine piece_later (piece_later ?_); exact piece_pair (padT_mem y 6 (by decide) (by decide) e)
      · refine piece_later (piece_later ?_); refine piece_later (piece_later ?_); exact piece_pair (padT_mem y 5 (by decide) (by decide) e)
      · refine piece_later (piece_later ?_); refine piece_later (piece_later ?_); refine piece_later (piece_later ?_); exact piece_pair (padT_mem y 4 (by decide) (by decide) e)
      · refine piece_later (piece_later ?_); refine piece_later (piece_later ?_); refine piece_later (piece_later ?_); refine piece_later (piece_later ?_); exact piece_pair (padT_mem y 3 (by decide) (by decide) e)
      · refine piece_later (piece_later ?_); refine piece_later (piece_later ?_); refine piece_later (piece_later ?_); refine piece_later (piece_later ?_); refine piece_later (piece_later ?_); exact piece_pair (padT_mem y 2 (by decide) (by decide) e)
      · refine piece_later (piece_later ?_); refine piece_later (piece_later ?_); refine piece_later (piece_later ?_); refine piece_later (piece_later ?_); refine piece_later (piece_later ?_); refine piece_later (piece_later ?_); exact piece_pair (padT_mem y 1 (by decide) (by decide) e)
      · refine piece_later (piece_later ?_); refine piece_later (piece_later ?_); refine piece_later (piece_later ?_); refine piece_later (piece_later ?_); refine piece_later (piece_later ?_); refine piece_later (piece_later ?_); refine piece_later (piece_later ?_); exact piece_pair (padT_mem y 0 (by decide) (by decide) e)
    rw [View.read_writes_eq_canon _ _ _ hc]
    funext y
    refine View.canon_apply_of_pieces _ _ ?_ y (hc y)
    unfold padT_run.sl.H1_16
    simp only [List.forall_mem_cons, List.not_mem_nil, false_imp_iff, implies_true, _root_.and_true]
    exact ⟨padT_zero _ 7 _, padT_piece M0 f0 7 (by omega) _ _, padT_zero _ 6 _, padT_piece M0 f0 6 (by omega) _ _, padT_zero _ 5 _, padT_piece M0 f0 5 (by omega) _ _, padT_zero _ 4 _, padT_piece M0 f0 4 (by omega) _ _, padT_zero _ 3 _, padT_piece M0 f0 3 (by omega) _ _, padT_zero _ 2 _, padT_piece M0 f0 2 (by omega) _ _, padT_zero _ 1 _, padT_piece M0 f0 1 (by omega) _ _, padT_zero _ 0 _, padT_piece M0 f0 0 (by omega) _ _⟩

end Cert.Proof
end
-- ==== Proof.Regions.lean ====
/-
  The four TensorCore regions of the program: their proof data, their bodies' obligations, and each as a segment of @main
  between the SparseCore calls.
-/
module
public import proofs.«01_k».proof.Proof.Body
public import Idealize.ShloMosaic.Lib.Pipeline.RegionsLoop
public import Idealize.ShloMosaic.Lib.LaneScatter.Own

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat Cfg Window BodyObligation cellOf)
open Idealize.ShloMosaic.LaneScatter (owns_raw)

variable {F : FTy → Type} [FloatOps F]

local notation "𝕄" => MT nD τ sig (HIx 2) (Elt F) ℕ UU ℕ

theorem cc3_eq (i : grid3.Coords) (M0 : Memref sig .tc .vmem S96x8x512 .f32) (h0 : M0.IsWhole) (M1 : Memref sig .tc .vmem S8x512x128 .f32) (h1 : M1.IsWhole) :
    cc3__transpose_pad_kernel (F := F) i M0 h0 M1 h1 = cc0__transpose_pad_kernel i M0 h0 M1 h1 := rfl

theorem cc5_eq (i : grid5.Coords) (M0 : Memref sig .tc .vmem S8x256x96 .f32) (h0 : M0.IsWhole) (M1 : Memref sig .tc .vmem S96x8x256 .f32) (h1 : M1.IsWhole) :
    cc5__out_t_kernel (F := F) i M0 h0 M1 h1 = cc2__out_t_kernel i M0 h0 M1 h1 := rfl

/-- The pairs a core may have waited on by the time `n` SparseCore calls are over. -/
def seen (c : Dev nD) (n : ℕ) : Set (SemLoc sig × HIx 2) := {p | (K (F := F)).lev (thrT c, p.1) p.2 ≤ 8 * n}

/-- The TensorCore's buffers at contents. -/
abbrev Vals (F : FTy → Type) : Type := (c : Dev nD) → (b : Ref sig .tc) → Buf (Elt F) ((c.tc : Thread nD τ).loc b)

variable (V : Vals F)

/-- The block a fetch stages. -/
abbrev stg0 (c : Dev nD) (t : Fin cfg0.N) : S96x8x512.Idx → F .f32 := ((cfg0.win 0).blk t).view.read (Elt F) (V c main_v13)
abbrev stg2 (c : Dev nD) (t : Fin cfg2.N) : S8x256x96.Idx → F .f32 := ((cfg2.win 0).blk t).view.read (Elt F) (V c main_v17)
abbrev stg3 (c : Dev nD) (t : Fin cfg3.N) : S96x8x512.Idx → F .f32 := ((cfg3.win 0).blk t).view.read (Elt F) (V c main_v20)
abbrev stg5 (c : Dev nD) (t : Fin cfg5.N) : S8x256x96.Idx → F .f32 := ((cfg5.win 0).blk t).view.read (Elt F) (V c main_v24)

/-- The proof data of each region: its arrays at the valuation, the blocks staged and what the kernel makes of them. -/
def dat0 (c : Dev nD) : Dat τ (Elt F) (HIx 2) ℕ UU ℕ cfg0 c where
  A w := V c (Pipeline.arrRef spec0 w)
  after w t := match w with
    | ⟨0, _⟩ => stg0 V c t
    | ⟨1, _⟩ => padT (stg0 V c t)
  Φ _ := Pipeline.scopedRest (Ix := HIx 2) (Name := ℕ) (U := UU) (Lvl := ℕ) (Val := Elt F) spec0 c
  q _ := fullShare
  owed _ := (K (F := F)).Otc c 0
  recorded _ := seen (F := F) c 0

def dat2 (c : Dev nD) : Dat τ (Elt F) (HIx 2) ℕ UU ℕ cfg2 c where
  A w := V c (Pipeline.arrRef spec2 w)
  after w t := match w with
    | ⟨0, _⟩ => stg2 V c t
    | ⟨1, _⟩ => outT (stg2 V c t)
  Φ _ := Pipeline.scopedRest (Ix := HIx 2) (Name := ℕ) (U := UU) (Lvl := ℕ) (Val := Elt F) spec2 c
  q _ := fullShare
  owed _ := (K (F := F)).Otc c 1
  recorded _ := seen (F := F) c 1

def dat3 (c : Dev nD) : Dat τ (Elt F) (HIx 2) ℕ UU ℕ cfg3 c where
  A w := V c (Pipeline.arrRef spec3 w)
  after w t := match w with
    | ⟨0, _⟩ => stg3 V c t
    | ⟨1, _⟩ => padT (stg3 V c t)
  Φ _ := Pipeline.scopedRest (Ix := HIx 2) (Name := ℕ) (U := UU) (Lvl := ℕ) (Val := Elt F) spec3 c
  q _ := fullShare
  owed _ := (K (F := F)).Otc c 1
  recorded _ := seen (F := F) c 1

def dat5 (c : Dev nD) : Dat τ (Elt F) (HIx 2) ℕ UU ℕ cfg5 c where
  A w := V c (Pipeline.arrRef spec5 w)
  after w t := match w with
    | ⟨0, _⟩ => stg5 V c t
    | ⟨1, _⟩ => outT (stg5 V c t)
  Φ _ := Pipeline.scopedRest (Ix := HIx 2) (Name := ℕ) (U := UU) (Lvl := ℕ) (Val := Elt F) spec5 c
  q _ := fullShare
  owed _ := (K (F := F)).Otc c 2
  recorded _ := seen (F := F) c 2

theorem before0 (c : Dev nD) (t : Fin cfg0.N) (d : (cfg0.win 0).block.Idx → Elt F (cfg0.win 0).elt) : (dat0 V c).before 0 t d = stg0 V c t := by
  unfold Dat.before; rw [if_pos (fetch0_0 t)]; rfl
theorem before2 (c : Dev nD) (t : Fin cfg2.N) (d : (cfg2.win 0).block.Idx → Elt F (cfg2.win 0).elt) : (dat2 V c).before 0 t d = stg2 V c t := by
  unfold Dat.before; rw [if_pos (fetch2_0 t)]; rfl
theorem before3 (c : Dev nD) (t : Fin cfg3.N) (d : (cfg3.win 0).block.Idx → Elt F (cfg3.win 0).elt) : (dat3 V c).before 0 t d = stg3 V c t := by
  unfold Dat.before; rw [if_pos (fetch3_0 t)]; rfl
theorem before5 (c : Dev nD) (t : Fin cfg5.N) (d : (cfg5.win 0).block.Idx → Elt F (cfg5.win 0).elt) : (dat5 V c).before 0 t d = stg5 V c t := by
  unfold Dat.before; rw [if_pos (fetch5_0 t)]; rfl

/-- The body of the padding region leaves the padded transposition of the block it was given. -/
theorem body0 (c : Dev nD) : BodyObligation (dat0 V c) (defs₀ (F := F)) 𝒱₀ none Set.univ := fun t => by
  rw [bigSep_W0, bigSep_W0]
  rw [show (dat0 V c).Φ t.castSucc = (dat0 V c).Φ t.succ from rfl,
    show (dat0 V c).owesAt none t.succ = (dat0 V c).owesAt none t.castSucc from rfl]
  have e0 := ((hstage0_0 ((cfg0.slots t 0).cast nbuf0_0)).set_eq_univ)
  have e1 := ((hstage0_1 ((cfg0.slots t 1).cast nbuf0_1)).set_eq_univ)
  unfold owns
  iintro ⟨HΦ, Howes, ⟨%d0, %f0, %hf0, H0⟩, ⟨%d1, %f1, -, H1⟩⟩
  rw [before0] at hf0
  iapply (padT_run (grid0.coords t) c (win0_0.stage (cfg0.slots t 0)) (hstage0_0 ((cfg0.slots t 0).cast nbuf0_0)) (win0_1.stage (cfg0.slots t 1))
    (hstage0_1 ((cfg0.slots t 1).cast nbuf0_1)) f0 f1 Set.univ _)
  isplitl [H0]; · erw [e0]; iexact H0
  isplitl [H1]; · erw [e1]; iexact H1
  iintro %W ⟨%hW, H0, H1⟩
  isplitl [HΦ]; · iexact HΦ
  isplitl [Howes]; · iexact Howes
  isplitl [H0]
  · iexists f0; isplitr; swap
    · erw [e0]; iexact H0
    ipureintro; exact hf0
  iexists W; isplitr; swap
  · erw [e1]; iexact H1
  ipureintro; exact hW.trans (congrArg padT hf0)

/-- The body of the output region leaves the transposition of the block it was given. -/
theorem body2 (c : Dev nD) : BodyObligation (dat2 V c) (defs₀ (F := F)) 𝒱₀ none Set.univ := fun t => by
  rw [bigSep_W2, bigSep_W2]
  rw [show (dat2 V c).Φ t.castSucc = (dat2 V c).Φ t.succ from rfl,
    show (dat2 V c).owesAt none t.succ = (dat2 V c).owesAt none t.castSucc from rfl]
  have e0 := ((hstage2_0 ((cfg2.slots t 0).cast nbuf2_0)).set_eq_univ)
  have e1 := ((hstage2_1 ((cfg2.slots t 1).cast nbuf2_1)).set_eq_univ)
  unfold owns
  iintro ⟨HΦ, Howes, ⟨%d0, %f0, %hf0, H0⟩, ⟨%d1, %f1, -, H1⟩⟩
  rw [before2] at hf0
  iapply (outT_run (grid2.coords t) c (win2_0.stage (cfg2.slots t 0)) (hstage2_0 ((cfg2.slots t 0).cast nbuf2_0)) (win2_1.stage (cfg2.slots t 1))
    (hstage2_1 ((cfg2.slots t 1).cast nbuf2_1)) f0 f1 Set.univ _)
  isplitl [H0]; · erw [e0]; iexact H0
  isplitl [H1]; · erw [e1]; iexact H1
  iintro %W ⟨%hW, H0, H1⟩
  isplitl [HΦ]; · iexact HΦ
  isplitl [Howes]; · iexact Howes
  isplitl [H0]
  · iexists f0; isplitr; swap
    · erw [e0]; iexact H0
    ipureintro; exact hf0
  iexists W; isplitr; swap
  · erw [e1]; iexact H1
  ipureintro; exact hW.trans (congrArg outT hf0)

/-- The second padding region. -/
theorem body3 (c : Dev nD) : BodyObligation (dat3 V c) (defs₀ (F := F)) 𝒱₀ none Set.univ := fun t => by
  rw [bigSep_W3, bigSep_W3]
  rw [show (dat3 V c).Φ t.castSucc = (dat3 V c).Φ t.succ from rfl,
    show (dat3 V c).owesAt none t.succ = (dat3 V c).owesAt none t.castSucc from rfl]
  have e0 := ((hstage3_0 ((cfg3.slots t 0).cast nbuf3_0)).set_eq_univ)
  have e1 := ((hstage3_1 ((cfg3.slots t 1).cast nbuf3_1)).set_eq_univ)
  unfold owns
  iintro ⟨HΦ, Howes, ⟨%d0, %f0, %hf0, H0⟩, ⟨%d1, %f1, -, H1⟩⟩
  rw [before3] at hf0
  iapply (padT_run (grid3.coords t) c (win3_0.stage (cfg3.slots t 0)) (hstage3_0 ((cfg3.slots t 0).cast nbuf3_0)) (win3_1.stage (cfg3.slots t 1))
    (hstage3_1 ((cfg3.slots t 1).cast nbuf3_1)) f0 f1 Set.univ _)
  isplitl [H0]; · erw [e0]; iexact H0
  isplitl [H1]; · erw [e1]; iexact H1
  iintro %W ⟨%hW, H0, H1⟩
  isplitl [HΦ]; · iexact HΦ
  isplitl [Howes]; · iexact Howes
  isplitl [H0]
  · iexists f0; isplitr; swap
    · erw [e0]; iexact H0
    ipureintro; exact hf0
  iexists W; isplitr; swap
  · erw [e1]; iexact H1
  ipureintro; exact hW.trans (congrArg padT hf0)

/-- The second output region. -/
theorem body5 (c : Dev nD) : BodyObligation (dat5 V c) (defs₀ (F := F)) 𝒱₀ none Set.univ := fun t => by
  rw [bigSep_W5, bigSep_W5]
  rw [show (dat5 V c).Φ t.castSucc = (dat5 V c).Φ t.succ from rfl,
    show (dat5 V c).owesAt none t.succ = (dat5 V c).owesAt none t.castSucc from rfl]
  have e0 := ((hstage5_0 ((cfg5.slots t 0).cast nbuf5_0)).set_eq_univ)
  have e1 := ((hstage5_1 ((cfg5.slots t 1).cast nbuf5_1)).set_eq_univ)
  unfold owns
  iintro ⟨HΦ, Howes, ⟨%d0, %f0, %hf0, H0⟩, ⟨%d1, %f1, -, H1⟩⟩
  rw [before5] at hf0
  iapply (outT_run (grid5.coords t) c (win5_0.stage (cfg5.slots t 0)) (hstage5_0 ((cfg5.slots t 0).cast nbuf5_0)) (win5_1.stage (cfg5.slots t 1))
    (hstage5_1 ((cfg5.slots t 1).cast nbuf5_1)) f0 f1 Set.univ _)
  isplitl [H0]; · erw [e0]; iexact H0
  isplitl [H1]; · erw [e1]; iexact H1
  iintro %W ⟨%hW, H0, H1⟩
  isplitl [HΦ]; · iexact HΦ
  isplitl [Howes]; · iexact Howes
  isplitl [H0]
  · iexists f0; isplitr; swap
    · erw [e0]; iexact H0
    ipureintro; exact hf0
  iexists W; isplitr; swap
  · erw [e1]; iexact H1
  ipureintro; exact hW.trans (congrArg outT hf0)

/-- No table is prefetched: the one admissible choice. -/
def adm : (p : Fin 4) → (pcfgs (F := F) p).Adm := fun p => (cfgs p).toPCfg_adm

/-- The proof data of all four regions, each at its own entry contents. -/
def pdats (V : Fin 4 → Vals F) : (p : Fin 4) → (c : Dev nD) → Dat τ (Elt F) (HIx 2) ℕ UU ℕ (Pipeline.pin (pcfgs (F := F)) adm p) c
  | ⟨0, _⟩ => fun c => dat0 (V 0) c
  | ⟨1, _⟩ => fun c => dat2 (V 1) c
  | ⟨2, _⟩ => fun c => dat3 (V 2) c
  | ⟨3, _⟩ => fun c => dat5 (V 3) c

/-- Nothing is owed at the pipelines' own index, so their waits may be made at any time. -/
theorem owed_none (c : Dev nD) (n : ℕ) (g : GSem nD τ sig) : (K (F := F)).Otc c n g none = 0 := by
  by_contra h
  have := (K (F := F)).lev_of_Otc_pos (Nat.pos_of_ne_zero h)
  rw [SparseCore.Cfg.lev_none] at this
  omega

set_option backward.isDefEq.respectTransparency.types false in
/-- A region of @main between the SparseCore calls: entered with the TensorCore's buffers at `W` and the start of call
    `n` still owed, left with them at `Wp`. -/
def regSeg (V : Fin 4 → Vals F) (p : Fin 4) (n : ℕ) (kit : Pipeline.LaunchFacts (nD := nD) (τ := τ) cfgs p) (W Wp : Vals F) (R : Dev nD → sProp 𝕄)
    (hbody : ∀ c, BodyObligation (pdats V p c) (defs₀ (F := F)) 𝒱₀ none Set.univ)
    (howed : ∀ c t, (pdats V p c).owed t = (K (F := F)).Otc c n) (hrec : ∀ c t, (pdats V p c).recorded t = seen (F := F) c n)
    (hΦ : ∀ c t, (pdats V p c).Φ t = Pipeline.scopedRest (Ix := HIx 2) (Name := ℕ) (U := UU) (Lvl := ℕ) (Val := Elt F) (cfgs p).spec c)
    (hq : ∀ c w, (pdats V p c).q w = fullShare)
    (hA : ∀ c w, (pdats V p c).A w = W c (Pipeline.arrRef (cfgs p).spec w))
    (hN : ∀ c w, (pdats V p c).arrAt w (cfgs p).N = Wp c (Pipeline.arrRef (cfgs p).spec w))
    (hrest : ∀ c (b : Ref sig .tc), b ∉ Finset.univ.image (Pipeline.arrRef (cfgs p).spec) → Wp c b = W c b) :
    Pipeline.RegionSeg (pcfgs (F := F)) adm (pdats V) none defs₀ 𝒱₀ (K (F := F)).L (K (F := F)).lev p where
  win := kit.win.to₀
  block_pos := kit.block_pos
  stage_whole := kit.stage_whole
  K := PEmpty
  osem k := k.elim
  ho := Pipeline.OwnSemFacts.none _
  hbody c := (hbody c).loose
  hwaits c := by
    refine Pipeline.cellsWaits_intro _ _ _ _ _ fun w s t => ?_
    rw [howed]
    exact (K (F := F)).mayWait_none _ (owed_none c n)
  pre c := iprop(unscopedBufs c (W c) ∗ R c ∗ ∃ B, ⌜(K (F := F)).WBelow (thrT c) B (8 * n)⌝ ∗ owes (thrT c) ((K (F := F)).Otc c n) B)
  post c := iprop(unscopedBufs c (Wp c) ∗ R c ∗ ∃ B, ⌜(K (F := F)).WBelow (thrT c) B (8 * n)⌝ ∗ owes (thrT c) ((K (F := F)).Otc c n) B)
  X _ := BI.emp
  Y _ := BI.emp
  Z c := iprop(Pipeline.unscopedRest (Ix := HIx 2) (Name := ℕ) (U := UU) (Lvl := ℕ) (cfgs p).spec c (W c) ∗ R c)
  hentry c := by
    rw [Pipeline.ownSems0_none]
    have hsplit := Pipeline.arrays_of_unscopedBufs (p := p) (pcfgs (F := F)) adm (pdats V) kit.win kit.arr_whole c
      ((pdats V p c).share_full (hq c)) (W c) (hA c)
    iintro ⟨⟨Hub, HR, ⟨%B, %hB, HO⟩⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed]
      iexists B; isplitr
      · ipureintro; intro x hx; refine Or.inl ?_; rw [hrec]; exact hB x hx
      iexact HO
    isplitr; · iempintro
    isplitl [Hrest] <;> iassumption
  hin c := by
    rw [hΦ]
    iintro ⟨-, -, Hr⟩; iexact Hr
  hout c := by
    rw [Pipeline.ownSems0_none, hΦ]
    iintro Hr
    isplitr; · iempintro
    isplitr; · iempintro
    iexact Hr
  hexit c := by
    have hjoin := Pipeline.unscopedBufs_of_arrays (p := p) (pcfgs (F := F)) adm (Ix := HIx 2) (Name := ℕ) (U := UU) (Lvl := ℕ) kit.win kit.arr_whole c
      (pdats V) ((pdats V p c).share_full (hq c)) (W c) (Wp c) ((pdats V p c).arrAt · (cfgs p).N) (hN c) (hrest c)
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    rw [howed]
    icases HO with ⟨%B, %hB, HO⟩; iexists B; isplitr
    · ipureintro
      intro x hx
      rcases hB hx with h | h
      · rw [hrec] at h; exact h
      · obtain ⟨w, s, rfl⟩ := h
        exact Nat.zero_le _
    iexact HO

end Cert.Proof

end
-- ==== Proof.Arrays.lean ====
/-
  The arrays the TensorCore regions leave: each the blocks its points write, put together.
-/
module
public import proofs.«01_k».proof.Proof.Regions

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat Cfg Window BodyObligation cellOf)

variable {F : FTy → Type} [FloatOps F]

/-- The padded transposition of an image: channels last, 96 of them and zero words behind. -/
def padAll (g : S96x512x512.Idx → F .f32) : S512x512x128.Idx → F .f32 := fun p =>
  if h : (p 2).val < 96 then g (fun | 0 => ⟨(p 2).val, h⟩ | 1 => p 0 | 2 => p 1) else Scalar.ofBits .f32 0x00000000#32

/-- The transposition of the pooled rows: channels first. -/
def outAll (g : S256x256x96.Idx → F .f32) : S96x256x256.Idx → F .f32 := fun p => g (fun | 0 => p 1 | 1 => p 2 | 2 => p 0)

variable (V : Vals F)

theorem idx0_0 : ∀ t : Fin cfg0.N, win0_0.index t 0 = 0 ∧ win0_0.index t 1 = t.val ∧ win0_0.index t 2 = 0 := by decide +kernel
theorem idx0_1 : ∀ t : Fin cfg0.N, win0_1.index t 0 = t.val ∧ win0_1.index t 1 = 0 ∧ win0_1.index t 2 = 0 := by decide +kernel
theorem idx2_0 : ∀ t : Fin cfg2.N, win2_0.index t 0 = t.val ∧ win2_0.index t 1 = 0 ∧ win2_0.index t 2 = 0 := by decide +kernel
theorem idx2_1 : ∀ t : Fin cfg2.N, win2_1.index t 0 = 0 ∧ win2_1.index t 1 = t.val ∧ win2_1.index t 2 = 0 := by decide +kernel

/-- Every element of region 0's result is in some point's block. -/
theorem cover0 (i : S512x512x128.Idx) : ∃ t : Fin cfg0.N, (cfg0.win 1).flush t = true ∧ i ∈ ((cfg0.win 1).blk t).view.set := by
  have i0 : (i 0).val < 512 := (i 0).isLt
  have hN : cfg0.N = 64 := N_0
  obtain ⟨t, ht⟩ : ∃ t : Fin cfg0.N, t.val = (i 0).val / 8 := ⟨⟨(i 0).val / 8, by omega⟩, rfl⟩
  refine ⟨t, flush0_1 t, ?_⟩
  obtain ⟨b0, b1, b2⟩ := idx0_1 t
  let y : S8x512x128.Idx := (fun | 0 => ⟨(i 0).val % 8, Nat.mod_lt _ (by decide)⟩ | 1 => i 1 | 2 => i 2)
  have : i = (win0_1.rect t).emb y := by
    funext a; apply Fin.ext
    match a with
    | 0 => refine Eq.symm ((win0_1.rect_emb_val t y 0).trans ?_); rw [b0, ht]; show (i 0).val / 8 * 8 + (i 0).val % 8 = (i 0).val; omega
    | 1 => exact (win0_1.rect_emb_val_of_index_zero t 1 b1 y).symm
    | 2 => exact (win0_1.rect_emb_val_of_index_zero t 2 b2 y).symm
  rw [this]
  exact View.emb_mem_set _ _

/-- Every element of region 1's result is in some point's block. -/
theorem cover2 (i : S96x256x256.Idx) : ∃ t : Fin cfg2.N, (cfg2.win 1).flush t = true ∧ i ∈ ((cfg2.win 1).blk t).view.set := by
  have i0 : (i 1).val < 256 := (i 1).isLt
  have hN : cfg2.N = 32 := N_2
  obtain ⟨t, ht⟩ : ∃ t : Fin cfg2.N, t.val = (i 1).val / 8 := ⟨⟨(i 1).val / 8, by omega⟩, rfl⟩
  refine ⟨t, flush2_1 t, ?_⟩
  obtain ⟨b0, b1, b2⟩ := idx2_1 t
  let y : S96x8x256.Idx := (fun | 0 => i 0 | 1 => ⟨(i 1).val % 8, Nat.mod_lt _ (by decide)⟩ | 2 => i 2)
  have : i = (win2_1.rect t).emb y := by
    funext a; apply Fin.ext
    match a with
    | 0 => exact (win2_1.rect_emb_val_of_index_zero t 0 b0 y).symm
    | 1 => refine Eq.symm ((win2_1.rect_emb_val t y 1).trans ?_); rw [b1, ht]; show (i 1).val / 8 * 8 + (i 1).val % 8 = (i 1).val; omega
    | 2 => exact (win2_1.rect_emb_val_of_index_zero t 2 b2 y).symm
  rw [this]
  exact View.emb_mem_set _ _

/-- Region 0 leaves the padded transposition of its input. -/
theorem arr0 (c : Dev nD) : (dat0 V c).arrAt 1 cfg0.N = (padAll (V c main_v13 : S96x512x512.Idx → F .f32) : S512x512x128.Idx → F .f32) := by
  refine (dat0 V c).arrAt_eq_of_cover 1 _ (fun t _ => ?_) fun i => ?_
  · obtain ⟨a0, a1, a2⟩ := idx0_0 t
    obtain ⟨b0, b1, b2⟩ := idx0_1 t
    funext y
    have y0 : (y 0).val < 8 := (y 0).isLt
    have y1 : (y 1).val < 512 := (y 1).isLt
    have y2 : (y 2).val < 128 := (y 2).isLt
    show padT (stg0 V c t) y = padAll (V c main_v13 : S96x512x512.Idx → F .f32) ((win0_1.rect t).emb y)
    have e0 : ((win0_1.rect t).emb y 0).val = t.val * 8 + (y 0).val := (win0_1.rect_emb_val t y 0).trans (by rw [b0]; rfl)
    have e1 : ((win0_1.rect t).emb y 1).val = (y 1).val := win0_1.rect_emb_val_of_index_zero t 1 b1 y
    have e2 : ((win0_1.rect t).emb y 2).val = (y 2).val := win0_1.rect_emb_val_of_index_zero t 2 b2 y
    unfold padT padAll
    by_cases h : (y 2).val < 96
    · rw [dif_pos h, dif_pos (by rw [e2]; exact h)]
      show V c main_v13 ((win0_0.rect t).emb _) = V c main_v13 _
      refine congrArg (V c main_v13) (funext fun a => Fin.ext ?_)
      match a with
      | 0 => exact (win0_0.rect_emb_val_of_index_zero t 0 a0 _).trans e2.symm
      | 1 => exact ((win0_0.rect_emb_val t _ 1).trans (by rw [a1]; rfl)).trans e0.symm
      | 2 => exact (win0_0.rect_emb_val_of_index_zero t 2 a2 _).trans e1.symm
    · rw [dif_neg h, dif_neg (by rw [e2]; exact h)]
  · exact cover0 i

/-- Region 1 leaves the transposition of its input. -/
theorem arr2 (c : Dev nD) : (dat2 V c).arrAt 1 cfg2.N = (outAll (V c main_v17 : S256x256x96.Idx → F .f32) : S96x256x256.Idx → F .f32) := by
  refine (dat2 V c).arrAt_eq_of_cover 1 _ (fun t _ => ?_) fun i => ?_
  · obtain ⟨a0, a1, a2⟩ := idx2_0 t
    obtain ⟨b0, b1, b2⟩ := idx2_1 t
    funext y
    show outT (stg2 V c t) y = outAll (V c main_v17 : S256x256x96.Idx → F .f32) ((win2_1.rect t).emb y)
    have e0 : ((win2_1.rect t).emb y 0).val = (y 0).val := win2_1.rect_emb_val_of_index_zero t 0 b0 y
    have e1 : ((win2_1.rect t).emb y 1).val = t.val * 8 + (y 1).val := (win2_1.rect_emb_val t y 1).trans (by rw [b1]; rfl)
    have e2 : ((win2_1.rect t).emb y 2).val = (y 2).val := win2_1.rect_emb_val_of_index_zero t 2 b2 y
    unfold outT outAll
    show V c main_v17 ((win2_0.rect t).emb _) = V c main_v17 _
    refine congrArg (V c main_v17) (funext fun a => Fin.ext ?_)
    match a with
    | 0 => exact ((win2_0.rect_emb_val t _ 0).trans (by rw [a0]; rfl)).trans e1.symm
    | 1 => exact (win2_0.rect_emb_val_of_index_zero t 1 a1 _).trans e2.symm
    | 2 => exact (win2_0.rect_emb_val_of_index_zero t 2 a2 _).trans e0.symm
  · exact cover2 i

theorem idx3_0 : ∀ t : Fin cfg3.N, win3_0.index t 0 = 0 ∧ win3_0.index t 1 = t.val ∧ win3_0.index t 2 = 0 := by decide +kernel
theorem idx3_1 : ∀ t : Fin cfg3.N, win3_1.index t 0 = t.val ∧ win3_1.index t 1 = 0 ∧ win3_1.index t 2 = 0 := by decide +kernel
theorem idx5_0 : ∀ t : Fin cfg5.N, win5_0.index t 0 = t.val ∧ win5_0.index t 1 = 0 ∧ win5_0.index t 2 = 0 := by decide +kernel
theorem idx5_1 : ∀ t : Fin cfg5.N, win5_1.index t 0 = 0 ∧ win5_1.index t 1 = t.val ∧ win5_1.index t 2 = 0 := by decide +kernel

/-- Every element of region 2's result is in some point's block. -/
theorem cover3 (i : S512x512x128.Idx) : ∃ t : Fin cfg3.N, (cfg3.win 1).flush t = true ∧ i ∈ ((cfg3.win 1).blk t).view.set := by
  have i0 : (i 0).val < 512 := (i 0).isLt
  have hN : cfg3.N = 64 := N_3
  obtain ⟨t, ht⟩ : ∃ t : Fin cfg3.N, t.val = (i 0).val / 8 := ⟨⟨(i 0).val / 8, by omega⟩, rfl⟩
  refine ⟨t, flush3_1 t, ?_⟩
  obtain ⟨b0, b1, b2⟩ := idx3_1 t
  let y : S8x512x128.Idx := (fun | 0 => ⟨(i 0).val % 8, Nat.mod_lt _ (by decide)⟩ | 1 => i 1 | 2 => i 2)
  have : i = (win3_1.rect t).emb y := by
    funext a; apply Fin.ext
    match a with
    | 0 => refine Eq.symm ((win3_1.rect_emb_val t y 0).trans ?_); rw [b0, ht]; show (i 0).val / 8 * 8 + (i 0).val % 8 = (i 0).val; omega
    | 1 => exact (win3_1.rect_emb_val_of_index_zero t 1 b1 y).symm
    | 2 => exact (win3_1.rect_emb_val_of_index_zero t 2 b2 y).symm
  rw [this]
  exact View.emb_mem_set _ _

/-- Region 2 leaves the padded transposition of its input. -/
theorem arr3 (c : Dev nD) : (dat3 V c).arrAt 1 cfg3.N = (padAll (V c main_v20 : S96x512x512.Idx → F .f32) : S512x512x128.Idx → F .f32) := by
  refine (dat3 V c).arrAt_eq_of_cover 1 _ (fun t _ => ?_) fun i => ?_
  · obtain ⟨a0, a1, a2⟩ := idx3_0 t
    obtain ⟨b0, b1, b2⟩ := idx3_1 t
    funext y
    have y0 : (y 0).val < 8 := (y 0).isLt
    have y1 : (y 1).val < 512 := (y 1).isLt
    have y2 : (y 2).val < 128 := (y 2).isLt
    show padT (stg3 V c t) y = padAll (V c main_v20 : S96x512x512.Idx → F .f32) ((win3_1.rect t).emb y)
    have e0 : ((win3_1.rect t).emb y 0).val = t.val * 8 + (y 0).val := (win3_1.rect_emb_val t y 0).trans (by rw [b0]; rfl)
    have e1 : ((win3_1.rect t).emb y 1).val = (y 1).val := win3_1.rect_emb_val_of_index_zero t 1 b1 y
    have e2 : ((win3_1.rect t).emb y 2).val = (y 2).val := win3_1.rect_emb_val_of_index_zero t 2 b2 y
    unfold padT padAll
    by_cases h : (y 2).val < 96
    · rw [dif_pos h, dif_pos (by rw [e2]; exact h)]
      show V c main_v20 ((win3_0.rect t).emb _) = V c main_v20 _
      refine congrArg (V c main_v20) (funext fun a => Fin.ext ?_)
      match a with
      | 0 => exact (win3_0.rect_emb_val_of_index_zero t 0 a0 _).trans e2.symm
      | 1 => exact ((win3_0.rect_emb_val t _ 1).trans (by rw [a1]; rfl)).trans e0.symm
      | 2 => exact (win3_0.rect_emb_val_of_index_zero t 2 a2 _).trans e1.symm
    · rw [dif_neg h, dif_neg (by rw [e2]; exact h)]
  · exact cover3 i

/-- Every element of region 3's result is in some point's block. -/
theorem cover5 (i : S96x256x256.Idx) : ∃ t : Fin cfg5.N, (cfg5.win 1).flush t = true ∧ i ∈ ((cfg5.win 1).blk t).view.set := by
  have i0 : (i 1).val < 256 := (i 1).isLt
  have hN : cfg5.N = 32 := N_5
  obtain ⟨t, ht⟩ : ∃ t : Fin cfg5.N, t.val = (i 1).val / 8 := ⟨⟨(i 1).val / 8, by omega⟩, rfl⟩
  refine ⟨t, flush5_1 t, ?_⟩
  obtain ⟨b0, b1, b2⟩ := idx5_1 t
  let y : S96x8x256.Idx := (fun | 0 => i 0 | 1 => ⟨(i 1).val % 8, Nat.mod_lt _ (by decide)⟩ | 2 => i 2)
  have : i = (win5_1.rect t).emb y := by
    funext a; apply Fin.ext
    match a with
    | 0 => exact (win5_1.rect_emb_val_of_index_zero t 0 b0 y).symm
    | 1 => refine Eq.symm ((win5_1.rect_emb_val t y 1).trans ?_); rw [b1, ht]; show (i 1).val / 8 * 8 + (i 1).val % 8 = (i 1).val; omega
    | 2 => exact (win5_1.rect_emb_val_of_index_zero t 2 b2 y).symm
  rw [this]
  exact View.emb_mem_set _ _

/-- Region 3 leaves the transposition of its input. -/
theorem arr5 (c : Dev nD) : (dat5 V c).arrAt 1 cfg5.N = (outAll (V c main_v24 : S256x256x96.Idx → F .f32) : S96x256x256.Idx → F .f32) := by
  refine (dat5 V c).arrAt_eq_of_cover 1 _ (fun t _ => ?_) fun i => ?_
  · obtain ⟨a0, a1, a2⟩ := idx5_0 t
    obtain ⟨b0, b1, b2⟩ := idx5_1 t
    funext y
    show outT (stg5 V c t) y = outAll (V c main_v24 : S256x256x96.Idx → F .f32) ((win5_1.rect t).emb y)
    have e0 : ((win5_1.rect t).emb y 0).val = (y 0).val := win5_1.rect_emb_val_of_index_zero t 0 b0 y
    have e1 : ((win5_1.rect t).emb y 1).val = t.val * 8 + (y 1).val := (win5_1.rect_emb_val t y 1).trans (by rw [b1]; rfl)
    have e2 : ((win5_1.rect t).emb y 2).val = (y 2).val := win5_1.rect_emb_val_of_index_zero t 2 b2 y
    unfold outT outAll
    show V c main_v24 ((win5_0.rect t).emb _) = V c main_v24 _
    refine congrArg (V c main_v24) (funext fun a => Fin.ext ?_)
    match a with
    | 0 => exact ((win5_0.rect_emb_val t _ 0).trans (by rw [a0]; rfl)).trans e1.symm
    | 1 => exact (win5_0.rect_emb_val_of_index_zero t 1 a1 _).trans e2.symm
    | 2 => exact (win5_0.rect_emb_val_of_index_zero t 2 a2 _).trans e0.symm
  · exact cover5 i

end Cert.Proof

end
-- ==== Proof.Vals.lean ====
/-
  The host operations of @main, stretch by stretch, and the contents of the device's buffers between them; the kernels'
  calls stand among them as operations on whole arrays.
-/
module
public import proofs.«01_k».proof.Proof.Arrays

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.StableHlo (TRef)

variable {F : FTy → Type} [FloatOps F]

/-- The operations before the first kernel: the list of rows to gather, and the first image. -/
abbrev opsA : List (HloOp τ sig (Elt F)) :=
  [ TRef.unary (TRef.of (T := ⟨S256x256x4x2, .f32⟩) main_arg1) (TRef.of (T := ⟨S256x256x4x2, .f32⟩) main_v0) Host.roundeven,
    StableHlo.unary main_v0 main_v1 (fptosi 32 : (⟨S256x256x4x2, .f32⟩ : BufTy).Contents (Elt F) → (⟨S256x256x4x2, .i32⟩ : BufTy).Contents (Elt F)),
    StableHlo.unary main_v1 main_v2 ((extractStridedSlice S256x256x4x1 ![0, 0, 0, 0] · slices_S256x256x4x2_S256x256x4x1_0_0_0_0) : (⟨S256x256x4x2, .i32⟩ : BufTy).Contents (Elt F) → (⟨S256x256x4x1, .i32⟩ : BufTy).Contents (Elt F)),
    StableHlo.reshape main_v2 main_v3 (rfl : (.i32 : EltTy) = .i32) shapeCasts_S256x256x4x1_S256x256x4,
    StableHlo.nullary main_c (constantI S_ 32 0#32),
    StableHlo.nullary main_c_0 (constantI S_ 32 511#32),
    TRef.unary (TRef.of (T := ⟨S_, .i32⟩) main_c) (TRef.of (T := ⟨S_, .i32⟩) main_call1_v0) id,
    TRef.unary (TRef.of (T := ⟨S_, .i32⟩) main_call1_v0) (TRef.of (T := ⟨S256x256x4, .i32⟩) main_call1_v1) (broadcastInDim S256x256x4 ![] bcast_S_S256x256x4),
    TRef.binary (TRef.of (T := ⟨S256x256x4, .i32⟩) main_call1_v1) (TRef.of (T := ⟨S256x256x4, .i32⟩) main_v3) (TRef.of (T := ⟨S256x256x4, .i32⟩) main_call1_v2) maxsi,
    TRef.unary (TRef.of (T := ⟨S_, .i32⟩) main_c_0) (TRef.of (T := ⟨S_, .i32⟩) main_call1_v3) id,
    TRef.unary (TRef.of (T := ⟨S_, .i32⟩) main_call1_v3) (TRef.of (T := ⟨S256x256x4, .i32⟩) main_call1_v4) (broadcastInDim S256x256x4 ![] bcast_S_S256x256x4),
    TRef.binary (TRef.of (T := ⟨S256x256x4, .i32⟩) main_call1_v4) (TRef.of (T := ⟨S256x256x4, .i32⟩) main_call1_v2) (TRef.of (T := ⟨S256x256x4, .i32⟩) main_v4) minsi,
    StableHlo.unary main_v1 main_v5 ((extractStridedSlice S256x256x4x1 ![0, 0, 0, 1] · slices_S256x256x4x2_S256x256x4x1_0_0_0_1) : (⟨S256x256x4x2, .i32⟩ : BufTy).Contents (Elt F) → (⟨S256x256x4x1, .i32⟩ : BufTy).Contents (Elt F)),
    StableHlo.reshape main_v5 main_v6 (rfl : (.i32 : EltTy) = .i32) shapeCasts_S256x256x4x1_S256x256x4,
    StableHlo.nullary main_c_1 (constantI S_ 32 0#32),
    StableHlo.nullary main_c_2 (constantI S_ 32 511#32),
    TRef.unary (TRef.of (T := ⟨S_, .i32⟩) main_c_1) (TRef.of (T := ⟨S_, .i32⟩) main_call2_v0) id,
    TRef.unary (TRef.of (T := ⟨S_, .i32⟩) main_call2_v0) (TRef.of (T := ⟨S256x256x4, .i32⟩) main_call2_v1) (broadcastInDim S256x256x4 ![] bcast_S_S256x256x4),
    TRef.binary (TRef.of (T := ⟨S256x256x4, .i32⟩) main_call2_v1) (TRef.of (T := ⟨S256x256x4, .i32⟩) main_v6) (TRef.of (T := ⟨S256x256x4, .i32⟩) main_call2_v2) maxsi,
    TRef.unary (TRef.of (T := ⟨S_, .i32⟩) main_c_2) (TRef.of (T := ⟨S_, .i32⟩) main_call2_v3) id,
    TRef.unary (TRef.of (T := ⟨S_, .i32⟩) main_call2_v3) (TRef.of (T := ⟨S256x256x4, .i32⟩) main_call2_v4) (broadcastInDim S256x256x4 ![] bcast_S_S256x256x4),
    TRef.binary (TRef.of (T := ⟨S256x256x4, .i32⟩) main_call2_v4) (TRef.of (T := ⟨S256x256x4, .i32⟩) main_call2_v2) (TRef.of (T := ⟨S256x256x4, .i32⟩) main_v7) minsi,
    StableHlo.nullary main_c_3 (constantI S_ 32 512#32),
    StableHlo.unary main_c_3 main_v8 (broadcastInDim S256x256x4 ![] bcast_S_S256x256x4 : (⟨S_, .i32⟩ : BufTy).Contents (Elt F) → (⟨S256x256x4, .i32⟩ : BufTy).Contents (Elt F)),
    StableHlo.binary main_v7 main_v8 main_v9 (muli : (⟨S256x256x4, .i32⟩ : BufTy).Contents (Elt F) → (⟨S256x256x4, .i32⟩ : BufTy).Contents (Elt F) → (⟨S256x256x4, .i32⟩ : BufTy).Contents (Elt F)),
    StableHlo.binary main_v9 main_v4 main_v10 (addi : (⟨S256x256x4, .i32⟩ : BufTy).Contents (Elt F) → (⟨S256x256x4, .i32⟩ : BufTy).Contents (Elt F) → (⟨S256x256x4, .i32⟩ : BufTy).Contents (Elt F)),
    StableHlo.reshape main_v10 main_v11 (rfl : (.i32 : EltTy) = .i32) shapeCasts_S256x256x4_S262144,
    StableHlo.unary main_arg0 main_v12 ((extractStridedSlice S1x96x512x512 ![0, 0, 0, 0] · slices_S2x96x512x512_S1x96x512x512_0_0_0_0) : (⟨S2x96x512x512, .f32⟩ : BufTy).Contents (Elt F) → (⟨S1x96x512x512, .f32⟩ : BufTy).Contents (Elt F)),
    StableHlo.reshape main_v12 main_v13 (rfl : (.f32 : EltTy) = .f32) shapeCasts_S1x96x512x512_S96x512x512 ]

abbrev opsB : List (HloOp τ sig (Elt F)) := [ StableHlo.reshape main_v14 main_v15 (rfl : (.f32 : EltTy) = .f32) shapeCasts_S512x512x128_S262144x128 ]
abbrev opsC : List (HloOp τ sig (Elt F)) := [ StableHlo.reshape main_v16 main_v17 (rfl : (.f32 : EltTy) = .f32) shapeCasts_S65536x96_S256x256x96 ]
abbrev opsD : List (HloOp τ sig (Elt F)) :=
  [ StableHlo.unary main_arg0 main_v19 ((extractStridedSlice S1x96x512x512 ![1, 0, 0, 0] · slices_S2x96x512x512_S1x96x512x512_1_0_0_0) : (⟨S2x96x512x512, .f32⟩ : BufTy).Contents (Elt F) → (⟨S1x96x512x512, .f32⟩ : BufTy).Contents (Elt F)),
    StableHlo.reshape main_v19 main_v20 (rfl : (.f32 : EltTy) = .f32) shapeCasts_S1x96x512x512_S96x512x512 ]
abbrev opsE : List (HloOp τ sig (Elt F)) := [ StableHlo.reshape main_v21 main_v22 (rfl : (.f32 : EltTy) = .f32) shapeCasts_S512x512x128_S262144x128 ]
abbrev opsG : List (HloOp τ sig (Elt F)) := [ StableHlo.reshape main_v23 main_v24 (rfl : (.f32 : EltTy) = .f32) shapeCasts_S65536x96_S256x256x96 ]
abbrev opsH : List (HloOp τ sig (Elt F)) :=
  [ StableHlo.unary main_v18 main_v26 (broadcastInDim S1x96x256x256 ![1, 2, 3] bcast_S96x256x256_S1x96x256x256_1_2_3 : (⟨S96x256x256, .f32⟩ : BufTy).Contents (Elt F) → (⟨S1x96x256x256, .f32⟩ : BufTy).Contents (Elt F)),
    StableHlo.unary main_v25 main_v27 (broadcastInDim S1x96x256x256 ![1, 2, 3] bcast_S96x256x256_S1x96x256x256_1_2_3 : (⟨S96x256x256, .f32⟩ : BufTy).Contents (Elt F) → (⟨S1x96x256x256, .f32⟩ : BufTy).Contents (Elt F)),
    StableHlo.binary main_v26 main_v27 main_v28 ((fun a b => concatenate S2x96x256x256 0 [⟨S1x96x256x256, a⟩, ⟨S1x96x256x256, b⟩] concatenates_S1x96x256x256_S1x96x256x256_S2x96x256x256_d0) : (⟨S1x96x256x256, .f32⟩ : BufTy).Contents (Elt F) → (⟨S1x96x256x256, .f32⟩ : BufTy).Contents (Elt F) → (⟨S2x96x256x256, .f32⟩ : BufTy).Contents (Elt F)) ]

/-- A list array's word at a position. -/
def wordAt (l : S262144.Idx → BitVec 32) : ℕ → BitVec 32 := fun n => if h : n < 262144 then l (fun | 0 => ⟨n, h⟩) else 0#32

/-- The pooled rows of a table at the positions a list array names. -/
def poolRows (t : S262144x128.Idx → F .f32) (l : S262144.Idx → BitVec 32) : S65536x96.Idx → F .f32 := poolAll t (wordAt l)

/-- The kernels' calls, as operations on whole arrays. -/
abbrev padOp0 : HloOp τ sig (Elt F) := StableHlo.unary main_v13 main_v14 (padAll : (⟨S96x512x512, .f32⟩ : BufTy).Contents (Elt F) → (⟨S512x512x128, .f32⟩ : BufTy).Contents (Elt F))
abbrev padOp1 : HloOp τ sig (Elt F) := StableHlo.unary main_v20 main_v21 (padAll : (⟨S96x512x512, .f32⟩ : BufTy).Contents (Elt F) → (⟨S512x512x128, .f32⟩ : BufTy).Contents (Elt F))
abbrev outOp0 : HloOp τ sig (Elt F) := StableHlo.unary main_v17 main_v18 (outAll : (⟨S256x256x96, .f32⟩ : BufTy).Contents (Elt F) → (⟨S96x256x256, .f32⟩ : BufTy).Contents (Elt F))
abbrev outOp1 : HloOp τ sig (Elt F) := StableHlo.unary main_v24 main_v25 (outAll : (⟨S256x256x96, .f32⟩ : BufTy).Contents (Elt F) → (⟨S96x256x256, .f32⟩ : BufTy).Contents (Elt F))
abbrev poolOp0 : HloOp τ sig (Elt F) := StableHlo.binary main_v15 main_v11 main_v16 (poolRows : (⟨S262144x128, .f32⟩ : BufTy).Contents (Elt F) → (⟨S262144, .i32⟩ : BufTy).Contents (Elt F) → (⟨S65536x96, .f32⟩ : BufTy).Contents (Elt F))
abbrev poolOp1 : HloOp τ sig (Elt F) := StableHlo.binary main_v22 main_v11 main_v23 (poolRows : (⟨S262144x128, .f32⟩ : BufTy).Contents (Elt F) → (⟨S262144, .i32⟩ : BufTy).Contents (Elt F) → (⟨S65536x96, .f32⟩ : BufTy).Contents (Elt F))

variable (m : (ℓ : Loc nD τ sig) → Buf (Elt F) ℓ) (d : Dev nD)

/-- The device's buffers, stretch by stretch. -/
def vA : Valuation τ sig (Elt F) := StableHlo.after opsA (StableHlo.launchContents m d)
def vB : Valuation τ sig (Elt F) := StableHlo.after opsB ((padOp0 (F := F)).result (vA m d))
def vC : Valuation τ sig (Elt F) := StableHlo.after opsC ((poolOp0 (F := F)).result (vB m d))
def vD : Valuation τ sig (Elt F) := StableHlo.after opsD ((outOp0 (F := F)).result (vC m d))
def vE : Valuation τ sig (Elt F) := StableHlo.after opsE ((padOp1 (F := F)).result (vD m d))
def vG : Valuation τ sig (Elt F) := StableHlo.after opsG ((poolOp1 (F := F)).result (vE m d))
def vH : Valuation τ sig (Elt F) := StableHlo.after opsH ((outOp1 (F := F)).result (vG m d))

/-- A coordinate array, rounded and clipped to the image. -/
def clipped (a : S256x256x4x1.Idx → BitVec 32) : S256x256x4.Idx → BitVec 32 :=
  minsi (broadcastInDim S256x256x4 ![] bcast_S_S256x256x4 (id (constantI S_ 32 511#32)))
    (maxsi (broadcastInDim S256x256x4 ![] bcast_S_S256x256x4 (id (constantI S_ 32 0#32))) (shapeCast S256x256x4 a shapeCasts_S256x256x4x1_S256x256x4))

/-- The positions to gather, from the sampling grid. -/
def flat (a : S256x256x4x2.Idx → F .f32) : S256x256x4.Idx → BitVec 32 :=
  addi (muli (clipped (extractStridedSlice S256x256x4x1 ![0, 0, 0, 1] (fptosi 32 (Host.roundeven a)) slices_S256x256x4x2_S256x256x4x1_0_0_0_1))
      (broadcastInDim S256x256x4 ![] bcast_S_S256x256x4 (constantI S_ 32 512#32)))
    (clipped (extractStridedSlice S256x256x4x1 ![0, 0, 0, 0] (fptosi 32 (Host.roundeven a)) slices_S256x256x4x2_S256x256x4x1_0_0_0_0))

/-- A clipped word is at most 511. -/
theorem clip_word (x : BitVec 32) : (IntOp.minsi 511#32 (IntOp.maxsi 0#32 x)).toNat ≤ 511 := by
  unfold IntOp.minsi IntOp.maxsi
  have h511 : (511#32 : BitVec 32).toNat = 511 := rfl
  have i511 : (511#32 : BitVec 32).toInt = 511 := rfl
  have i0 : (0#32 : BitVec 32).toInt = 0 := rfl
  by_cases h1 : x.slt 0#32 = true
  · rw [if_pos h1]; decide
  · rw [if_neg h1]
    by_cases h2 : (511#32 : BitVec 32).slt x = true
    · rw [if_pos h2, h511]
    · rw [if_neg h2]
      simp only [BitVec.slt, i511, i0, decide_eq_true_eq] at h1 h2
      have h3 := BitVec.toInt_eq_toNat_cond x
      have h4 := x.isLt
      split_ifs at h3 <;> omega

theorem clipped_le (a : S256x256x4x1.Idx → BitVec 32) (p : S256x256x4.Idx) : (clipped a p).toNat ≤ 511 := clip_word _

/-- Every position is one of the table's rows. -/
theorem flat_lt (a : S256x256x4x2.Idx → F .f32) (p : S256x256x4.Idx) : (flat a p).toNat < 262144 := by
  have h1 := clipped_le (extractStridedSlice S256x256x4x1 ![0, 0, 0, 1] (fptosi 32 (Host.roundeven a)) slices_S256x256x4x2_S256x256x4x1_0_0_0_1) p
  have h2 := clipped_le (extractStridedSlice S256x256x4x1 ![0, 0, 0, 0] (fptosi 32 (Host.roundeven a)) slices_S256x256x4x2_S256x256x4x1_0_0_0_0) p
  show (clipped _ p * 512#32 + clipped _ p : BitVec 32).toNat < 262144
  rw [BitVec.toNat_add, BitVec.toNat_mul, show (512#32 : BitVec 32).toNat = 512 from rfl]
  refine Nat.lt_of_le_of_lt (Nat.mod_le _ _) ?_
  have := Nat.mod_le ((clipped (extractStridedSlice S256x256x4x1 ![0, 0, 0, 1] (fptosi 32 (Host.roundeven a)) slices_S256x256x4x2_S256x256x4x1_0_0_0_1) p).toNat * 512) (2 ^ 32)
  omega

/-- The list the kernels are given. -/
def listOf (a : S256x256x4x2.Idx → F .f32) : S262144.Idx → BitVec 32 := shapeCast S262144 (flat a) shapeCasts_S256x256x4_S262144

set_option maxRecDepth 8192 in
theorem vA_v11 : vA m d (Proc.devRef .tc main_v11) = listOf (m (d, Proc.devRef .tc main_arg1)) := by
  unfold vA
  simp only [opsA, TRef.binary, TRef.nullary, TRef.ternary, TRef.unary, TRef.toBuf, TRef.ofBuf, cast_eq]
  after_results_simp
  rfl

theorem vB_v11 : vB m d (Proc.devRef .tc main_v11) = listOf (m (d, Proc.devRef .tc main_arg1)) := by
  rw [← vA_v11]; unfold vB; after_results_simp
theorem vE_v11 : vE m d (Proc.devRef .tc main_v11) = listOf (m (d, Proc.devRef .tc main_arg1)) := by
  rw [← vB_v11]; unfold vE vD vC; after_results_simp

theorem wordAt_lt (a : S256x256x4x2.Idx → F .f32) (n : ℕ) : (wordAt (listOf a) n).toNat < 262144 := by
  unfold wordAt
  split_ifs with h
  · exact flat_lt a _
  · decide

/-- The SparseCore calls' jobs. -/
def jobs (d : Dev nD) : Fin 2 → Job F
  | 0 => { tab := vB m d (Proc.devRef .tc main_v15), lst := wordAt (listOf (m (d, Proc.devRef .tc main_arg1))), old := vB m d (Proc.devRef .tc main_v16), lt := wordAt_lt _ }
  | 1 => { tab := vE m d (Proc.devRef .tc main_v22), lst := wordAt (listOf (m (d, Proc.devRef .tc main_arg1))), old := vE m d (Proc.devRef .tc main_v23), lt := wordAt_lt _ }

theorem wordAt_idx (l : S262144.Idx → BitVec 32) : (fun p : S262144.Idx => wordAt l (p 0).val) = l := by
  funext p
  have h : (p 0).val < 262144 := (p 0).isLt
  show wordAt l (p 0).val = l p
  unfold wordAt
  rw [dif_pos h]
  refine congrArg l (funext fun a => ?_)
  match a with
  | 0 => rfl

end Cert.Proof

end
-- ==== Proof.Main.lean ====
/-
  @main on the TensorCore, step by step: the host operations, the four regions and the two SparseCore calls, from the
  launch's buffers to the result.
-/
module
public import proofs.«01_k».proof.Proof.Vals
public import proofs.«01_k».proof.Proof.Split
public import Idealize.ShloMosaic.Lib.Pipeline.Frame
public import Idealize.ShloMosaic.Lib.Pipeline.FrameTail

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 2) (Elt F) ℕ UU ℕ

/-- The handshakes' rounds in the whole ghost state. -/
abbrev EH : Emb UH 𝕄 := embL
/-- The pipelines' rounds in the whole ghost state. -/
def EP : Emb UP 𝕄 := (Emb.inl : Emb UP (UP × Counters)).trans embR

instance EP_landsIn : (EP : Emb UP 𝕄).LandsIn (upEmb : UEmb _ 𝕄) := by unfold EP; infer_instance

variable (m : (ℓ : Loc nD τ sig) → Buf (Elt F) ℓ)

/-- What each region is entered with. -/
def entries : Fin 4 → Vals F
  | 0 => fun c b => vA m c (Proc.devRef .tc b)
  | 1 => fun c b => vC m c (Proc.devRef .tc b)
  | 2 => fun c b => vD m c (Proc.devRef .tc b)
  | 3 => fun c b => vG m c (Proc.devRef .tc b)

section Segs

open Pipeline (arrRef)

/-- The first padding region. -/
def seg0 : Pipeline.RegionSeg (pcfgs (F := F)) adm (pdats (entries m)) none defs₀ 𝒱₀ (K (F := F)).L (K (F := F)).lev 0 :=
  regSeg (entries m) 0 0 launch0 (entries m 0) (fun c b => (padOp0 (F := F)).result (vA m c) (Proc.devRef .tc b)) (fun _ => BI.emp)
    (body0 (entries m 0)) (fun _ _ => rfl) (fun _ _ => rfl) (fun _ _ => rfl) (fun _ _ => rfl) (fun _ _ => rfl)
    (fun c w => match w with
      | ⟨0, _⟩ => by
        show (dat0 (entries m 0) c).arrAt 0 cfg0.N = (padOp0 (F := F)).result (vA m c) (Proc.devRef .tc main_v13)
        rw [Pipeline.Dat.arrAt_in _ 0 rfl, StableHlo.unary_result_ne]
        · rfl
        · decide
      | ⟨1, _⟩ => by
        show (dat0 (entries m 0) c).arrAt 1 cfg0.N = (padOp0 (F := F)).result (vA m c) (Proc.devRef .tc main_v14)
        rw [arr0, StableHlo.unary_result]; rfl)
    (fun c b hb => by
      show (padOp0 (F := F)).result (vA m c) (Proc.devRef .tc b) = vA m c (Proc.devRef .tc b)
      rw [StableHlo.unary_result_ne]
      rintro rfl
      exact hb (by decide))

/-- The first output region. -/
def seg1 : Pipeline.RegionSeg (pcfgs (F := F)) adm (pdats (entries m)) none defs₀ 𝒱₀ (K (F := F)).L (K (F := F)).lev 1 :=
  regSeg (entries m) 1 1 launch2 (entries m 1) (fun c b => (outOp0 (F := F)).result (vC m c) (Proc.devRef .tc b)) (fun _ => BI.emp)
    (body2 (entries m 1)) (fun _ _ => rfl) (fun _ _ => rfl) (fun _ _ => rfl) (fun _ _ => rfl) (fun _ _ => rfl)
    (fun c w => match w with
      | ⟨0, _⟩ => by
        show (dat2 (entries m 1) c).arrAt 0 cfg2.N = (outOp0 (F := F)).result (vC m c) (Proc.devRef .tc main_v17)
        rw [Pipeline.Dat.arrAt_in _ 0 rfl, StableHlo.unary_result_ne]
        · rfl
        · decide
      | ⟨1, _⟩ => by
        show (dat2 (entries m 1) c).arrAt 1 cfg2.N = (outOp0 (F := F)).result (vC m c) (Proc.devRef .tc main_v18)
        rw [arr2, StableHlo.unary_result]; rfl)
    (fun c b hb => by
      show (outOp0 (F := F)).result (vC m c) (Proc.devRef .tc b) = vC m c (Proc.devRef .tc b)
      rw [StableHlo.unary_result_ne]
      rintro rfl
      exact hb (by decide))

/-- The second padding region. -/
def seg2 : Pipeline.RegionSeg (pcfgs (F := F)) adm (pdats (entries m)) none defs₀ 𝒱₀ (K (F := F)).L (K (F := F)).lev 2 :=
  regSeg (entries m) 2 1 launch3 (entries m 2) (fun c b => (padOp1 (F := F)).result (vD m c) (Proc.devRef .tc b)) (fun _ => BI.emp)
    (body3 (entries m 2)) (fun _ _ => rfl) (fun _ _ => rfl) (fun _ _ => rfl) (fun _ _ => rfl) (fun _ _ => rfl)
    (fun c w => match w with
      | ⟨0, _⟩ => by
        show (dat3 (entries m 2) c).arrAt 0 cfg3.N = (padOp1 (F := F)).result (vD m c) (Proc.devRef .tc main_v20)
        rw [Pipeline.Dat.arrAt_in _ 0 rfl, StableHlo.unary_result_ne]
        · rfl
        · decide
      | ⟨1, _⟩ => by
        show (dat3 (entries m 2) c).arrAt 1 cfg3.N = (padOp1 (F := F)).result (vD m c) (Proc.devRef .tc main_v21)
        rw [arr3, StableHlo.unary_result]; rfl)
    (fun c b hb => by
      show (padOp1 (F := F)).result (vD m c) (Proc.devRef .tc b) = vD m c (Proc.devRef .tc b)
      rw [StableHlo.unary_result_ne]
      rintro rfl
      exact hb (by decide))

/-- The second output region. -/
def seg3 : Pipeline.RegionSeg (pcfgs (F := F)) adm (pdats (entries m)) none defs₀ 𝒱₀ (K (F := F)).L (K (F := F)).lev 3 :=
  regSeg (entries m) 3 2 launch5 (entries m 3) (fun c b => (outOp1 (F := F)).result (vG m c) (Proc.devRef .tc b)) (fun _ => BI.emp)
    (body5 (entries m 3)) (fun _ _ => rfl) (fun _ _ => rfl) (fun _ _ => rfl) (fun _ _ => rfl) (fun _ _ => rfl)
    (fun c w => match w with
      | ⟨0, _⟩ => by
        show (dat5 (entries m 3) c).arrAt 0 cfg5.N = (outOp1 (F := F)).result (vG m c) (Proc.devRef .tc main_v24)
        rw [Pipeline.Dat.arrAt_in _ 0 rfl, StableHlo.unary_result_ne]
        · rfl
        · decide
      | ⟨1, _⟩ => by
        show (dat5 (entries m 3) c).arrAt 1 cfg5.N = (outOp1 (F := F)).result (vG m c) (Proc.devRef .tc main_v25)
        rw [arr5, StableHlo.unary_result]; rfl)
    (fun c b hb => by
      show (outOp1 (F := F)).result (vG m c) (Proc.devRef .tc b) = vG m c (Proc.devRef .tc b)
      rw [StableHlo.unary_result_ne]
      rintro rfl
      exact hb (by decide))

end Segs

set_option backward.isDefEq.respectTransparency.types false in
/-- A region in its place among the calls: the TensorCore's call state kept, the buffers rewritten. -/
theorem region_step [∀ e, Nonempty (Elt F e)] (J : Dev nD → Fin 2 → Job F) (κ : GSem nD τ sig → ℕ) (V : Fin 4 → Vals F) (d : Dev nD) (p : Fin 4) (n : ℕ)
    (S : Pipeline.RegionSeg (pcfgs (F := F)) adm (pdats V) none defs₀ 𝒱₀ (K (F := F)).L (K (F := F)).lev p)
    (W Wp : Valuation τ sig (Elt F))
    (hpre : S.pre d = iprop(unscopedBufs d (fun b => W (Proc.devRef .tc b)) ∗ BI.emp ∗ ∃ B, ⌜(K (F := F)).WBelow (thrT d) B (8 * n)⌝ ∗ owes (thrT d) ((K (F := F)).Otc d n) B))
    (hpost : S.post d = iprop(unscopedBufs d (fun b => Wp (Proc.devRef .tc b)) ∗ BI.emp ∗ ∃ B, ⌜(K (F := F)).WBelow (thrT d) B (8 * n)⌝ ∗ owes (thrT d) ((K (F := F)).Otc d n) B))
    {Φ : PUnit → sProp 𝕄} :
    iprop((K (F := F)).ctx EH (P J) κ ∗ (K (F := F)).tcSt EH d n ∗ boundary (thrT d) ∗ StableHlo.held (thrT d) (Pipeline.ucRefs τ sig) W
        ∗ Pipeline.cellsGhost (Pipeline.pin (pcfgs (F := F)) adm) EP p d ∗ Pipeline.toksInit (Pipeline.pin (pcfgs (F := F)) adm) EP p d
        ∗ (((K (F := F)).tcSt EH d n ∗ boundary (thrT d) ∗ StableHlo.held (thrT d) (Pipeline.ucRefs τ sig) Wp) -∗ Φ ⟨⟩))
      ⊢ wp frame (wpE ((K (F := F)).defs (D (F := F))) 𝒱 (thrT d) none) Set.univ (Prog.lift (.customCall (SparseCore.inner (Pipeline.entry p)) ())) Φ := by
  have hwp := Pipeline.RegionSeg.wp (pcfgs (F := F)) adm (pdats V) none cellOf_inj EP defs₀ 𝒱₀ (K (F := F)).L (K (F := F)).lev S d none (fun _ h => nomatch h) .ret Φ
  rw [hpre, hpost] at hwp
  rw [show (unscopedBufs d (fun b => W (Proc.devRef .tc b)) : sProp 𝕄) = _ from Pipeline.unscopedBufs_held d W,
    show (unscopedBufs d (fun b => Wp (Proc.devRef .tc b)) : sProp 𝕄) = _ from Pipeline.unscopedBufs_held d Wp] at hwp
  have hlift := hwp.trans ((K (F := F)).wp_liftProg (D (F := F)) 𝒱 (thrT d) Set.univ none (.op (.customCall (Pipeline.entry p) ()) .ret) Φ)
  unfold SparseCore.Cfg.tcSt
  iintro ⟨#Hctx, ⟨HO, Hat, Hre, Hst, Htk⟩, Hb, Hh, Hg, Ht, Hk⟩
  ihave Hlev := (SparseCore.Cfg.ctx_levAts κ) $$ Hctx
  iapply hlift
  isplitl [Hk Hat Hre Hst Htk]
  · iintro ⟨Hb, Hh, -, HO⟩
    rw [wp_ret]; imodintro
    iapply Hk
    isplitl [HO Hat Hre Hst Htk]
    · isplitl [HO]; · iexact HO
      isplitl [Hat]; · iexact Hat
      isplitl [Hre]; · iexact Hre
      isplitl [Hst]; · iexact Hst
      iexact Htk
    isplitl [Hb]; · iexact Hb
    iexact Hh
  isplitl [Hb]; · iexact Hb
  isplitl [Hh HO]
  · isplitl [Hh]; · iexact Hh
    isplitr; · iempintro
    iexact HO
  isplitr; · iexact Hlev
  isplitl [Hg]; · iexact Hg
  iexact Ht

/-- The first call's arrays out of the TensorCore's buffers. -/
theorem held_pool0 (d : Dev nD) (V : Valuation τ sig (Elt F)) : (StableHlo.held (thrT d) (Pipeline.ucRefs τ sig) V : sProp 𝕄)
    = iprop((((thrT d).loc main_v15 ↦{fullShare} V (Proc.devRef .tc main_v15)) ∗ ((thrT d).loc main_v11 ↦{fullShare} V (Proc.devRef .tc main_v11))
        ∗ ((thrT d).loc main_v16 ↦{fullShare} V (Proc.devRef .tc main_v16))) ∗ StableHlo.held (thrT d) (Pipeline.ucRefs τ sig \ (poolOp0 (F := F)).bufs) V) := by
  rw [StableHlo.held_split (thrT d) (op := poolOp0 (F := F)) (Pipeline.sub_ucRefs _ (StableHlo.binary_bufs_sub ..)) V]
  congr 1
  unfold StableHlo.held
  rw [show (poolOp0 (F := F)).bufs = {(Proc.devRef .tc main_v15 : DevRef τ sig), Proc.devRef .tc main_v11, Proc.devRef .tc main_v16} from rfl,
    SparseCore.bigSep_insert' (by decide), SparseCore.bigSep_insert' (by decide), bigSep_singleton]

/-- The second call's. -/
theorem held_pool1 (d : Dev nD) (V : Valuation τ sig (Elt F)) : (StableHlo.held (thrT d) (Pipeline.ucRefs τ sig) V : sProp 𝕄)
    = iprop((((thrT d).loc main_v22 ↦{fullShare} V (Proc.devRef .tc main_v22)) ∗ ((thrT d).loc main_v11 ↦{fullShare} V (Proc.devRef .tc main_v11))
        ∗ ((thrT d).loc main_v23 ↦{fullShare} V (Proc.devRef .tc main_v23))) ∗ StableHlo.held (thrT d) (Pipeline.ucRefs τ sig \ (poolOp1 (F := F)).bufs) V) := by
  rw [StableHlo.held_split (thrT d) (op := poolOp1 (F := F)) (Pipeline.sub_ucRefs _ (StableHlo.binary_bufs_sub ..)) V]
  congr 1
  unfold StableHlo.held
  rw [show (poolOp1 (F := F)).bufs = {(Proc.devRef .tc main_v22 : DevRef τ sig), Proc.devRef .tc main_v11, Proc.devRef .tc main_v23} from rfl,
    SparseCore.bigSep_insert' (by decide), SparseCore.bigSep_insert' (by decide), bigSep_singleton]

/-- A separating product over as many cases by another name. -/
theorem bigSep_cast {n k : ℕ} (h : n = k) (Φ : Fin k → sProp 𝕄) : (bigSep Finset.univ fun c : Fin n => Φ (c.cast h)) = bigSep Finset.univ Φ := by
  subst h; rfl

/-- What a call's SparseCores are handed, tile by tile. -/
theorem st_eq (J : Dev nD → Fin 2 → Job F) (q : Fin 2) (d : Dev nD) : (bigSep Finset.univ fun c : Fin ((K (F := F)).nCore q) => (P J).st q d c)
    = (bigSep Finset.univ fun c : Fin 2 => bigSep Finset.univ fun s : Fin 16 => goOf J q d (tileAt c s) : sProp 𝕄) := by
  unfold P place0
  refine Eq.trans (bigSep_congr fun c _ => ?_) (bigSep_cast (nCore_eq (F := F) q) fun c => bigSep Finset.univ fun s : Fin 16 => goOf J q d (tileAt c s))
  exact bigSep_cast (nSub_eq (F := F) q) fun s => goOf J q d (tileAt (c.cast (nCore_eq (F := F) q)) s)

/-- What they hand back, tile by tile. -/
theorem dn_eq (J : Dev nD → Fin 2 → Job F) (q : Fin 2) (d : Dev nD) : (bigSep Finset.univ fun c : Fin ((K (F := F)).nCore q) => (P J).dn q d c)
    = (bigSep Finset.univ fun c : Fin 2 => bigSep Finset.univ fun s : Fin 16 => tdOf J q d (tileAt c s) : sProp 𝕄) := by
  unfold P place0
  refine Eq.trans (bigSep_congr fun c _ => ?_) (bigSep_cast (nCore_eq (F := F) q) fun c => bigSep Finset.univ fun s : Fin 16 => tdOf J q d (tileAt c s))
  exact bigSep_cast (nSub_eq (F := F) q) fun s => tdOf J q d (tileAt (c.cast (nCore_eq (F := F) q)) s)

/-- The first call over any jobs: the table and the list read, the pooled rows written. -/
theorem call0 [∀ e, Nonempty (Elt F e)] (J : Dev nD → Fin 2 → Job F) (κ : GSem nD τ sig → ℕ) (d : Dev nD) {Φ : PUnit → sProp 𝕄} :
    iprop((K (F := F)).ctx EH (P J) κ ∗ (K (F := F)).tcSt EH d 0
        ∗ (((thrT d).loc main_v15 ↦{fullShare} (J d 0).tab) ∗ ((thrT d).loc main_v11 ↦{fullShare} (J d 0).words) ∗ ((thrT d).loc main_v16 ↦{fullShare} (J d 0).old))
        ∗ (((K (F := F)).tcSt EH d 1
          ∗ (((thrT d).loc main_v15 ↦{fullShare} (J d 0).tab) ∗ ((thrT d).loc main_v11 ↦{fullShare} (J d 0).words) ∗ ((thrT d).loc main_v16 ↦{fullShare} (J d 0).res))) -∗ Φ ⟨⟩))
      ⊢ wp frame (wpE ((K (F := F)).defs (D (F := F))) 𝒱 (thrT d) none) Set.univ ((K (F := F)).run d 0) Φ := by
  have hst : (bigSep Finset.univ fun c : Fin ((K (F := F)).nCore 0) => (P J).st 0 d c) = bigSep Finset.univ fun c : Fin 2 => bigSep Finset.univ fun s : Fin 16 =>
      (handed (F := F) d (tileAt c s) (Memref.whole main_v15_scv) (Memref.whole main_v11_scv) (Memref.whole main_v16_scv) (J d 0).tab (J d 0).words (J d 0).old : sProp 𝕄) := st_eq J 0 d
  have hdn : (bigSep Finset.univ fun c : Fin ((K (F := F)).nCore 0) => (P J).dn 0 d c) = bigSep Finset.univ fun c : Fin 2 => bigSep Finset.univ fun s : Fin 16 =>
      (back (F := F) d (tileAt c s) (Memref.whole main_v15_scv) (Memref.whole main_v11_scv) (Memref.whole main_v16_scv) (J d 0).tab (J d 0).words (J d 0).res : sProp 𝕄) := dn_eq J 0 d
  simp only [back_eq] at hdn
  rw [deal0, deal0, ← hst, ← hdn]
  iintro ⟨#Hctx, Hst, ⟨Hrem, Hts⟩, Hk⟩
  iapply ((K (F := F)).wp_run (D (F := F)) 𝒱 (EH := EH) (P := P J) κ d 0) $$ [Hst Hts Hrem Hk]
  isplitr; · iexact Hctx
  isplitl [Hst]; · iexact Hst
  isplitl [Hts]; · iexact Hts
  iintro ⟨Hst, Hts⟩
  iapply Hk
  isplitl [Hst]; · iexact Hst
  isplitl [Hrem]; · iexact Hrem
  iexact Hts

/-- The second call over any jobs: the table and the list read, the pooled rows written. -/
theorem call1 [∀ e, Nonempty (Elt F e)] (J : Dev nD → Fin 2 → Job F) (κ : GSem nD τ sig → ℕ) (d : Dev nD) {Φ : PUnit → sProp 𝕄} :
    iprop((K (F := F)).ctx EH (P J) κ ∗ (K (F := F)).tcSt EH d 1
        ∗ (((thrT d).loc main_v22 ↦{fullShare} (J d 1).tab) ∗ ((thrT d).loc main_v11 ↦{fullShare} (J d 1).words) ∗ ((thrT d).loc main_v23 ↦{fullShare} (J d 1).old))
        ∗ (((K (F := F)).tcSt EH d 2
          ∗ (((thrT d).loc main_v22 ↦{fullShare} (J d 1).tab) ∗ ((thrT d).loc main_v11 ↦{fullShare} (J d 1).words) ∗ ((thrT d).loc main_v23 ↦{fullShare} (J d 1).res))) -∗ Φ ⟨⟩))
      ⊢ wp frame (wpE ((K (F := F)).defs (D (F := F))) 𝒱 (thrT d) none) Set.univ ((K (F := F)).run d 1) Φ := by
  have hst : (bigSep Finset.univ fun c : Fin ((K (F := F)).nCore 1) => (P J).st 1 d c) = bigSep Finset.univ fun c : Fin 2 => bigSep Finset.univ fun s : Fin 16 =>
      (handed (F := F) d (tileAt c s) (Memref.whole main_v22_scv) (Memref.whole main_v11_scv) (Memref.whole main_v23_scv) (J d 1).tab (J d 1).words (J d 1).old : sProp 𝕄) := st_eq J 1 d
  have hdn : (bigSep Finset.univ fun c : Fin ((K (F := F)).nCore 1) => (P J).dn 1 d c) = bigSep Finset.univ fun c : Fin 2 => bigSep Finset.univ fun s : Fin 16 =>
      (back (F := F) d (tileAt c s) (Memref.whole main_v22_scv) (Memref.whole main_v11_scv) (Memref.whole main_v23_scv) (J d 1).tab (J d 1).words (J d 1).res : sProp 𝕄) := dn_eq J 1 d
  simp only [back_eq] at hdn
  rw [deal1, deal1, ← hst, ← hdn]
  iintro ⟨#Hctx, Hst, ⟨Hrem, Hts⟩, Hk⟩
  iapply ((K (F := F)).wp_run (D (F := F)) 𝒱 (EH := EH) (P := P J) κ d 1) $$ [Hst Hts Hrem Hk]
  isplitr; · iexact Hctx
  isplitl [Hst]; · iexact Hst
  isplitl [Hts]; · iexact Hts
  iintro ⟨Hst, Hts⟩
  iapply Hk
  isplitl [Hst]; · iexact Hst
  isplitl [Hrem]; · iexact Hrem
  iexact Hts

theorem words0 (d : Dev nD) : (jobs m d 0).words = vB m d (Proc.devRef .tc main_v11) := by
  rw [vB_v11]; exact wordAt_idx _

theorem res0 (d : Dev nD) : (jobs m d 0).res = (poolOp0 (F := F)).result (vB m d) (Proc.devRef .tc main_v16) := by
  rw [StableHlo.binary_result, vB_v11]; rfl

/-- The first call in its place among the operations. -/
theorem call_step0 [∀ e, Nonempty (Elt F e)] (κ : GSem nD τ sig → ℕ) (d : Dev nD) {Φ : PUnit → sProp 𝕄} :
    iprop((K (F := F)).ctx EH (P (jobs m)) κ ∗ (K (F := F)).tcSt EH d 0 ∗ StableHlo.held (thrT d) (Pipeline.ucRefs τ sig) (vB m d)
        ∗ (((K (F := F)).tcSt EH d 1 ∗ StableHlo.held (thrT d) (Pipeline.ucRefs τ sig) ((poolOp0 (F := F)).result (vB m d))) -∗ Φ ⟨⟩))
      ⊢ wp frame (wpE ((K (F := F)).defs (D (F := F))) 𝒱 (thrT d) none) Set.univ ((K (F := F)).run d 0) Φ := by
  have h := call0 (jobs m) κ d (Φ := Φ)
  rw [words0, res0, show (jobs m d 0).tab = vB m d (Proc.devRef .tc main_v15) from rfl, show (jobs m d 0).old = vB m d (Proc.devRef .tc main_v16) from rfl] at h
  rw [held_pool0, held_pool0, StableHlo.held_sdiff_result, StableHlo.binary_result_ne (r := main_v15) (h := by decide), StableHlo.binary_result_ne (r := main_v11) (h := by decide)]
  iintro ⟨#Hctx, Hst, ⟨Hts, Hrest⟩, Hk⟩
  iapply h
  isplitr; · iexact Hctx
  isplitl [Hst]; · iexact Hst
  isplitl [Hts]; · iexact Hts
  iintro ⟨Hst, Hts⟩
  iapply Hk
  isplitl [Hst]; · iexact Hst
  isplitl [Hts]; · iexact Hts
  iexact Hrest

theorem words1 (d : Dev nD) : (jobs m d 1).words = vE m d (Proc.devRef .tc main_v11) := by
  rw [vE_v11]; exact wordAt_idx _

theorem res1 (d : Dev nD) : (jobs m d 1).res = (poolOp1 (F := F)).result (vE m d) (Proc.devRef .tc main_v23) := by
  rw [StableHlo.binary_result, vE_v11]; rfl

/-- The second call in its place among the operations. -/
theorem call_step1 [∀ e, Nonempty (Elt F e)] (κ : GSem nD τ sig → ℕ) (d : Dev nD) {Φ : PUnit → sProp 𝕄} :
    iprop((K (F := F)).ctx EH (P (jobs m)) κ ∗ (K (F := F)).tcSt EH d 1 ∗ StableHlo.held (thrT d) (Pipeline.ucRefs τ sig) (vE m d)
        ∗ (((K (F := F)).tcSt EH d 2 ∗ StableHlo.held (thrT d) (Pipeline.ucRefs τ sig) ((poolOp1 (F := F)).result (vE m d))) -∗ Φ ⟨⟩))
      ⊢ wp frame (wpE ((K (F := F)).defs (D (F := F))) 𝒱 (thrT d) none) Set.univ ((K (F := F)).run d 1) Φ := by
  have h := call1 (jobs m) κ d (Φ := Φ)
  rw [words1, res1, show (jobs m d 1).tab = vE m d (Proc.devRef .tc main_v22) from rfl, show (jobs m d 1).old = vE m d (Proc.devRef .tc main_v23) from rfl] at h
  rw [held_pool1, held_pool1, StableHlo.held_sdiff_result, StableHlo.binary_result_ne (r := main_v22) (h := by decide), StableHlo.binary_result_ne (r := main_v11) (h := by decide)]
  iintro ⟨#Hctx, Hst, ⟨Hts, Hrest⟩, Hk⟩
  iapply h
  isplitr; · iexact Hctx
  isplitl [Hst]; · iexact Hst
  isplitl [Hts]; · iexact Hts
  iintro ⟨Hst, Hts⟩
  iapply Hk
  isplitl [Hst]; · iexact Hst
  isplitl [Hts]; · iexact Hts
  iexact Hrest

end Cert.Proof

end
-- ==== Proof.Run.lean ====
/-
  @main's run: its text as stretches of operations between the calls, the whole of it from the launch's buffers, and the
  program's run.
-/
module
public import proofs.«01_k».proof.Proof.Main

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Tactic

open Idealize.ShloMosaic.Rounds

variable {F : FTy → Type} [FloatOps F]

local notation "𝕄" => MT nD τ sig (HIx 2) (Elt F) ℕ UU ℕ

set_option maxRecDepth 16384 in
/-- @main is its stretches of operations between the six calls. -/
theorem main_eq (d : Dev nD) : main (F := F) d =
    (StableHlo.seq opsA >>= fun _ => (Prog.lift (.customCall (SparseCore.inner (Pipeline.entry 0)) ()) >>= fun _ =>
      (StableHlo.seq opsB >>= fun _ => ((K (F := F)).run d 0 >>= fun _ =>
      (StableHlo.seq opsC >>= fun _ => (Prog.lift (.customCall (SparseCore.inner (Pipeline.entry 1)) ()) >>= fun _ =>
      (StableHlo.seq opsD >>= fun _ => (Prog.lift (.customCall (SparseCore.inner (Pipeline.entry 2)) ()) >>= fun _ =>
      (StableHlo.seq opsE >>= fun _ => ((K (F := F)).run d 1 >>= fun _ =>
      (StableHlo.seq opsG >>= fun _ => (Prog.lift (.customCall (SparseCore.inner (Pipeline.entry 3)) ()) >>= fun _ =>
      (StableHlo.seq opsH >>= fun _ => pure ⟨⟩))))))))))))) := by
  rw [StableHlo.seq_bind_seqK, StableHlo.seq_bind_seqK, StableHlo.seq_bind_seqK, StableHlo.seq_bind_seqK, StableHlo.seq_bind_seqK, StableHlo.seq_bind_seqK,
    StableHlo.seq_bind_seqK]
  rfl

/-! ## The stretches' buffers -/

theorem subA : (opsA : List (HloOp τ sig (Elt F))).Forall fun op => op.bufs ⊆ StableHlo.tcRefs τ sig :=
  ⟨StableHlo.unary_bufs_sub .., StableHlo.unary_bufs_sub .., StableHlo.unary_bufs_sub .., StableHlo.reshape_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.reshape_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.reshape_bufs_sub .., StableHlo.unary_bufs_sub .., StableHlo.reshape_bufs_sub ..⟩
theorem freshA : ∀ op ∈ (opsA : List (HloOp τ sig (Elt F))), op.fresh = ∅ := by
  intro _ h; (repeat (cases h with | head => rfl | tail _ h => ?_)); exact nomatch h
theorem subB : (opsB : List (HloOp τ sig (Elt F))).Forall fun op => op.bufs ⊆ StableHlo.tcRefs τ sig :=
  StableHlo.reshape_bufs_sub ..
theorem freshB : ∀ op ∈ (opsB : List (HloOp τ sig (Elt F))), op.fresh = ∅ := by
  intro _ h; (repeat (cases h with | head => rfl | tail _ h => ?_)); exact nomatch h
theorem subC : (opsC : List (HloOp τ sig (Elt F))).Forall fun op => op.bufs ⊆ StableHlo.tcRefs τ sig :=
  StableHlo.reshape_bufs_sub ..
theorem freshC : ∀ op ∈ (opsC : List (HloOp τ sig (Elt F))), op.fresh = ∅ := by
  intro _ h; (repeat (cases h with | head => rfl | tail _ h => ?_)); exact nomatch h
theorem subD : (opsD : List (HloOp τ sig (Elt F))).Forall fun op => op.bufs ⊆ StableHlo.tcRefs τ sig :=
  ⟨StableHlo.unary_bufs_sub .., StableHlo.reshape_bufs_sub ..⟩
theorem freshD : ∀ op ∈ (opsD : List (HloOp τ sig (Elt F))), op.fresh = ∅ := by
  intro _ h; (repeat (cases h with | head => rfl | tail _ h => ?_)); exact nomatch h
theorem subE : (opsE : List (HloOp τ sig (Elt F))).Forall fun op => op.bufs ⊆ StableHlo.tcRefs τ sig :=
  StableHlo.reshape_bufs_sub ..
theorem freshE : ∀ op ∈ (opsE : List (HloOp τ sig (Elt F))), op.fresh = ∅ := by
  intro _ h; (repeat (cases h with | head => rfl | tail _ h => ?_)); exact nomatch h
theorem subG : (opsG : List (HloOp τ sig (Elt F))).Forall fun op => op.bufs ⊆ StableHlo.tcRefs τ sig :=
  StableHlo.reshape_bufs_sub ..
theorem freshG : ∀ op ∈ (opsG : List (HloOp τ sig (Elt F))), op.fresh = ∅ := by
  intro _ h; (repeat (cases h with | head => rfl | tail _ h => ?_)); exact nomatch h
theorem subH : (opsH : List (HloOp τ sig (Elt F))).Forall fun op => op.bufs ⊆ StableHlo.tcRefs τ sig :=
  ⟨StableHlo.unary_bufs_sub .., StableHlo.unary_bufs_sub .., StableHlo.binary_bufs_sub ..⟩
theorem freshH : ∀ op ∈ (opsH : List (HloOp τ sig (Elt F))), op.fresh = ∅ := by
  intro _ h; (repeat (cases h with | head => rfl | tail _ h => ?_)); exact nomatch h

/-- A stretch of operations, at named contents. -/
theorem seq_step (d : Dev nD) (ops : List (HloOp τ sig (Elt F))) (hS : ops.Forall fun op => op.bufs ⊆ StableHlo.tcRefs τ sig) (hf : ∀ op ∈ ops, op.fresh = ∅)
    (V V' : Valuation τ sig (Elt F)) (hV : V' = StableHlo.after ops V) (k : PUnit → Prog (TpuEff nD τ sig (Elt F) (SparseCore.Sig (ΛP (F := F)) 2) .tc) PUnit)
    {Φ : PUnit → sProp 𝕄} :
    iprop(boundary (thrT d) ∗ StableHlo.held (thrT d) (Pipeline.ucRefs τ sig) V
        ∗ ((boundary (thrT d) ∗ StableHlo.held (thrT d) (Pipeline.ucRefs τ sig) V') -∗ wp frame (wpE ((K (F := F)).defs (D (F := F))) 𝒱 (thrT d) none) Set.univ (k ⟨⟩) Φ))
      ⊢ wp frame (wpE ((K (F := F)).defs (D (F := F))) 𝒱 (thrT d) none) Set.univ (StableHlo.seq ops >>= k) Φ := by
  subst hV
  iintro ⟨Hb, Hh, Hk⟩
  iapply (StableHlo.wp_seq 𝒱 (defs := (K (F := F)).defs (D (F := F))) none Set.univ d (Pipeline.ucRefs τ sig) k ops
    (fun op ho => Pipeline.sub_ucRefs op (List.forall_iff_forall_mem.mp hS op ho)) hf V) $$ [Hb Hh]
  · isplitl [Hb] <;> iassumption
  iexact Hk

/-- The pipelines' ghost state on a device. -/
def ghost (d : Dev nD) : sProp 𝕄 :=
  iprop((bigSep Finset.univ fun p : Fin 4 => Pipeline.cellsGhost (Pipeline.pin (pcfgs (F := F)) adm) EP p d)
    ∗ bigSep Finset.univ fun p : Fin 4 => Pipeline.toksInit (Pipeline.pin (pcfgs (F := F)) adm) EP p d)

/-- A separating product over four. -/
theorem bigSep_four (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

variable (m : (ℓ : Loc nD τ sig) → Buf (Elt F) ℓ) (ρ : Dev nD → PrngReg)

/-- What the TensorCore ends with: its buffers at the last contents. -/
abbrev FIN (d : Dev nD) : sProp 𝕄 := StableHlo.held (thrT d) (Pipeline.ucRefs τ sig) (vH m d)

/-- @main on a device's TensorCore, from the launch to the end. -/
theorem hmain [∀ e, Nonempty (Elt F e)] (κ : GSem nD τ sig → ℕ) (d : Dev nD) :
    iprop((K (F := F)).ctx EH (P (jobs m)) κ ∗ (K (F := F)).tcSt EH d 0 ∗ (K (F := F)).tcRes m ρ d ∗ ghost d)
      ⊢ wp frame (wpE ((K (F := F)).defs (D (F := F))) 𝒱 (thrT d) none) Set.univ (main (F := F) d)
          fun _ => iprop((K (F := F)).tcSt EH d 2 ∗ FIN m d ∗ (K (F := F)).tcEnd d) := by
  unfold SparseCore.Cfg.tcRes SparseCore.Cfg.tcEnd ghost
  rw [bigSep_four, bigSep_four]
  rw [show (unscopedBufs d (fun b => m ((thrT d).loc b)) : sProp 𝕄) = _ from Pipeline.unscopedBufs_held d (StableHlo.launchContents m d)]
  rw [main_eq]
  iintro ⟨#Hctx, Hst, ⟨Hb, Hh, Hts, -⟩, ⟨Hg0, Hg1, Hg2, Hg3⟩, ⟨Ht0, Ht1, Ht2, Ht3⟩⟩
  iapply (seq_step d opsA subA freshA (StableHlo.launchContents m d) (vA m d) rfl)
  isplitl [Hb]; · iexact Hb
  isplitl [Hh]; · iexact Hh
  iintro ⟨Hb, Hh⟩
  rw [wp_bind]
  iapply (region_step (jobs m) κ (entries m) d 0 0 (seg0 m) (vA m d) ((padOp0 (F := F)).result (vA m d)) rfl rfl)
  isplitr; · iexact Hctx
  isplitl [Hst]; · iexact Hst
  isplitl [Hb]; · iexact Hb
  isplitl [Hh]; · iexact Hh
  isplitl [Hg0]; · iexact Hg0
  isplitl [Ht0]; · iexact Ht0
  iintro ⟨Hst, Hb, Hh⟩
  iapply (seq_step d opsB subB freshB ((padOp0 (F := F)).result (vA m d)) (vB m d) rfl)
  isplitl [Hb]; · iexact Hb
  isplitl [Hh]; · iexact Hh
  iintro ⟨Hb, Hh⟩
  rw [wp_bind]
  iapply (call_step0 m κ d)
  isplitr; · iexact Hctx
  isplitl [Hst]; · iexact Hst
  isplitl [Hh]; · iexact Hh
  iintro ⟨Hst, Hh⟩
  iapply (seq_step d opsC subC freshC ((poolOp0 (F := F)).result (vB m d)) (vC m d) rfl)
  isplitl [Hb]; · iexact Hb
  isplitl [Hh]; · iexact Hh
  iintro ⟨Hb, Hh⟩
  rw [wp_bind]
  iapply (region_step (jobs m) κ (entries m) d 1 1 (seg1 m) (vC m d) ((outOp0 (F := F)).result (vC m d)) rfl rfl)
  isplitr; · iexact Hctx
  isplitl [Hst]; · iexact Hst
  isplitl [Hb]; · iexact Hb
  isplitl [Hh]; · iexact Hh
  isplitl [Hg1]; · iexact Hg1
  isplitl [Ht1]; · iexact Ht1
  iintro ⟨Hst, Hb, Hh⟩
  iapply (seq_step d opsD subD freshD ((outOp0 (F := F)).result (vC m d)) (vD m d) rfl)
  isplitl [Hb]; · iexact Hb
  isplitl [Hh]; · iexact Hh
  iintro ⟨Hb, Hh⟩
  rw [wp_bind]
  iapply (region_step (jobs m) κ (entries m) d 2 1 (seg2 m) (vD m d) ((padOp1 (F := F)).result (vD m d)) rfl rfl)
  isplitr; · iexact Hctx
  isplitl [Hst]; · iexact Hst
  isplitl [Hb]; · iexact Hb
  isplitl [Hh]; · iexact Hh
  isplitl [Hg2]; · iexact Hg2
  isplitl [Ht2]; · iexact Ht2
  iintro ⟨Hst, Hb, Hh⟩
  iapply (seq_step d opsE subE freshE ((padOp1 (F := F)).result (vD m d)) (vE m d) rfl)
  isplitl [Hb]; · iexact Hb
  isplitl [Hh]; · iexact Hh
  iintro ⟨Hb, Hh⟩
  rw [wp_bind]
  iapply (call_step1 m κ d)
  isplitr; · iexact Hctx
  isplitl [Hst]; · iexact Hst
  isplitl [Hh]; · iexact Hh
  iintro ⟨Hst, Hh⟩
  iapply (seq_step d opsG subG freshG ((poolOp1 (F := F)).result (vE m d)) (vG m d) rfl)
  isplitl [Hb]; · iexact Hb
  isplitl [Hh]; · iexact Hh
  iintro ⟨Hb, Hh⟩
  rw [wp_bind]
  iapply (region_step (jobs m) κ (entries m) d 3 2 (seg3 m) (vG m d) ((outOp1 (F := F)).result (vG m d)) rfl rfl)
  isplitr; · iexact Hctx
  isplitl [Hst]; · iexact Hst
  isplitl [Hb]; · iexact Hb
  isplitl [Hh]; · iexact Hh
  isplitl [Hg3]; · iexact Hg3
  isplitl [Ht3]; · iexact Ht3
  iintro ⟨Hst, Hb, Hh⟩
  iapply (seq_step d opsH subH freshH ((outOp1 (F := F)).result (vG m d)) (vH m d) rfl)
  isplitl [Hb]; · iexact Hb
  isplitl [Hh]; · iexact Hh
  iintro ⟨Hb, Hh⟩
  rw [wp_pure]; imodintro
  isplitl [Hst]; · iexact Hst
  isplitl [Hh]; · iexact Hh
  isplitl [Hb] <;> iassumption

/-! ## The launch -/

/-- The launch's ghost state: the handshakes' rounds and the pipelines'. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

theorem hu₀ (J : Dev nD → Fin 2 → Job F) : (ownU (u₀ (F := F)) : sProp 𝕄)
    ⊢ |={Set.univ}=> iprop(BI.own (EH (initOf (K (F := F)).hsCells (K (F := F)).hsToks)) ∗ (bigSep Finset.univ fun d : Dev nD => ghost (F := F) d)
        ∗ bigSep Finset.univ fun thr : Thread nD τ => bigSep Finset.univ fun q : Fin 2 => (P J).x q thr) := by
  unfold u₀
  iintro Hu
  ihave H := (ownU_pair _ _) $$ Hu
  icases H with ⟨HH, HR⟩
  ihave H := (own_pair_emb (embR : Emb (UP × Counters) 𝕄) _ _) $$ HR
  icases H with ⟨HP, -⟩
  ihave HP := (show (BI.own (((Emb.inl : Emb UP (UP × Counters)).trans (embR : Emb (UP × Counters) 𝕄))
      (initOf (Pipeline.cells (Pipeline.pin (pcfgs (F := F)) adm) cellOf_inj) (Pipeline.launchToks (Pipeline.pin (pcfgs (F := F)) adm) cellOf_inj))) : sProp 𝕄)
    ⊢ BI.own ((EP (F := F)) (initOf (Pipeline.cells (Pipeline.pin (pcfgs (F := F)) adm) cellOf_inj) (Pipeline.launchToks (Pipeline.pin (pcfgs (F := F)) adm) cellOf_inj)))
    from BI.Entails.refl _) $$ HP
  imod (Pipeline.fund_ghost (Pipeline.pin (pcfgs (F := F)) adm) (EP (F := F)) cellOf_inj) $$ HP with ⟨Hg, Ht⟩
  imodintro
  isplitl [HH]; · iexact HH
  isplitl [Hg Ht]
  · unfold ghost
    rw [bigSep_sep']
    isplitl [Hg] <;> iassumption
  rw [show (bigSep Finset.univ fun thr : Thread nD τ => bigSep Finset.univ fun q : Fin 2 => (P J).x q thr) = (iprop(emp) : sProp 𝕄) from
    (bigSep_congr fun _ _ => bigSep_emp_const _).trans (bigSep_emp_const _)]
  iempintro

/-- A buffer held whole is what the memory holds. -/
theorem held_agree (d : Dev nD) (V : Valuation τ sig (Elt F)) (s' : Phys nD τ sig (Elt F)) (b : DevRef τ sig) (hb : b ∈ Pipeline.ucRefs τ sig) :
    iprop(StableHlo.held (thrT d) (Pipeline.ucRefs τ sig) V ∗ SI s') ⊢ (⌜s'.mem.mem (d, b) = V b⌝ : sProp 𝕄) := by
  unfold StableHlo.held
  rw [← Finset.insert_erase hb, SparseCore.bigSep_insert' (Finset.notMem_erase _ _)]
  iintro ⟨⟨Hp, -⟩, HSI⟩
  ihave H := (SI_pointsTo_agree (st := s') (ℓ := (d, b)) (I := Finset.univ) (q := fullShare) (f := V b)) $$ [HSI Hp]
  · isplitl [HSI] <;> iassumption
  icases H with %h
  ipureintro
  exact funext fun i => h i (Finset.mem_univ i)

/-- What the run leaves: the result, and the arguments as they were. -/
def fq (d : Dev nD) (s' : Phys nD τ sig (Elt F)) : Prop :=
  s'.mem.mem ((d.tc : Thread nD τ).loc main_v28) = vH m d (Proc.devRef .tc main_v28)
    ∧ s'.mem.mem ((d.tc : Thread nD τ).loc main_arg0) = vH m d (Proc.devRef .tc main_arg0)
    ∧ s'.mem.mem ((d.tc : Thread nD τ).loc main_arg1) = vH m d (Proc.devRef .tc main_arg1)

theorem hfin (d : Dev nD) (s' : Phys nD τ sig (Elt F)) : iprop(FIN m d ∗ SI s') ⊢ (⌜fq m d s'⌝ : sProp 𝕄) := by
  iintro H
  ihave H := (persistent_entails_right (held_agree d (vH m d) s' (Proc.devRef .tc main_v28) (Pipeline.devRef_mem_ucRefs rfl))) $$ H
  icases H with ⟨%h1, H⟩
  ihave H := (persistent_entails_right (held_agree d (vH m d) s' (Proc.devRef .tc main_arg0) (Pipeline.devRef_mem_ucRefs rfl))) $$ H
  icases H with ⟨%h2, H⟩
  ihave H := (held_agree d (vH m d) s' (Proc.devRef .tc main_arg1) (Pipeline.devRef_mem_ucRefs rfl)) $$ H
  icases H with %h3
  ipureintro; exact ⟨h1, h2, h3⟩

/-- The arguments are never written. -/
theorem vH_arg0 (d : Dev nD) : vH m d (Proc.devRef .tc main_arg0) = m (d, Proc.devRef .tc main_arg0) := by
  unfold vH vG vE vD vC vB vA; after_results_simp
theorem vH_arg1 (d : Dev nD) : vH m d (Proc.devRef .tc main_arg1) = m (d, Proc.devRef .tc main_arg1) := by
  unfold vH vG vE vD vC vB vA; after_results_simp

set_option maxRecDepth 16384 in
/-- Every run ends, with the result at the last contents, the arguments as they were and every semaphore at zero. -/
theorem run_main [∀ e, Nonempty (Elt F e)] :
    θ_run (Cert.KernelIdeal.defs (F := F)) (Cert.KernelIdeal.threads (F := F)) ⟨m, fun _ => 0, ρ⟩ (fun r =>
      (∀ c : Dev nD, r.2.mem ((c.tc : Thread nD τ).loc main_v28) = vH m c (Proc.devRef .tc main_v28)
        ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0) :=
  SparseCore.Cfg.θ_run_sc_quiescent (K := K (F := F)) (D := D (F := F)) (𝒱 := 𝒱) (EH := EH) (P := P (jobs m)) (A := ∅) scFacts v₀
    (fun q hq => match q with | 0 => nomatch hq | 1 => nomatch hq)
    (fun q _ => match q with | 0 => tileObl0 (jobs m) | 1 => tileObl1 (jobs m))
    (fun q _ => SparseCore.Cfg.VecSplit.of_plain (vecSplit (jobs m) q))
    m ρ main (fun d => ghost d) (FIN m) (u₀ (F := F)) (sep_elim_left.trans (hu₀ (jobs m))) (hmain m ρ) (fq m) (hfin m) _
    (fun _ h hz => ⟨fun c => ⟨(h c).1, (h c).2.1.trans (vH_arg0 m c), (h c).2.2.trans (vH_arg1 m c)⟩, hz⟩)

end Cert.Proof

end
-- ==== Proof.Frames.lean ====
/-
  The frames of the two printings of the kernel: its text is one, and its run over any floats is the run of both.
-/
module
public import proofs.«01_k».proof.Proof.Run
public import proofs.«01_k».proof.Proof.Gen.Kernel

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Tactic

/-- The frame over any floats. -/
theorem frame_any {F : FTy → Type} [FloatOps F] [∀ e, Nonempty (Elt F e)] (m : (ℓ : Loc nD τ sig) → Buf (Elt F) ℓ) (ρ : Dev nD → PrngReg) :
    θ_run (Cert.KernelIdeal.defs (F := F)) (Cert.KernelIdeal.threads (F := F)) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0) :=
  (θ_run Cert.KernelIdeal.defs _ _).mono (fun _ h => ⟨fun c => (h.1 c).2, h.2⟩) (run_main (F := F) m ρ)

/-- The idealized kernel's frame. -/
theorem frame_ideal : Cert.quiescent_KernelIdeal := fun m ρ _ => frame_any (F := Ideal) m ρ

set_option maxRecDepth 65536
set_option maxHeartbeats 0

/-- The two printings' bodies are one text. -/
theorem bodies_same : Cert.Kernel.defs₀ (F := Bits) = Cert.KernelIdeal.defs₀ (F := Bits) := by
  funext a b c
  cases a <;> fin_cases b <;> rfl

/-- So their tables are one. -/
theorem defs_same : Cert.Kernel.defs (F := Bits) = Cert.KernelIdeal.defs (F := Bits) :=
  congrArg (fun d => (Cert.KernelIdeal.sc (F := Bits)).defs (Pipeline.defs (Cert.KernelIdeal.pcfgs (F := Bits)) d)) bodies_same

/-- So is the text of the host program. -/
theorem main_same : Cert.Kernel.main (F := Bits) = Cert.KernelIdeal.main (F := Bits) := rfl

/-- So are the threads. -/
theorem threads_same : Cert.Kernel.threads (F := Bits) = Cert.KernelIdeal.threads (F := Bits) :=
  congrArg (fun p => (Cert.KernelIdeal.sc (F := Bits)).threads p) main_same

/-- The frame of any program with that table and those threads. -/
theorem frame_of (D : Defs nD τ sig (Elt Bits) _) (T) (hD : D = Cert.KernelIdeal.defs (F := Bits)) (hT : T = Cert.KernelIdeal.threads (F := Bits))
    (m : (ℓ : Loc nD τ sig) → Buf (Elt Bits) ℓ) (ρ : Dev nD → PrngReg) :
    θ_run D T ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0) := by
  subst hD hT
  exact frame_any (F := Bits) m ρ

/-- The kernel's frame. -/
theorem frame_kernel : Cert.quiescent_Kernel (hKernel := Cert.Kernel.Gen.facts) := fun m ρ _ =>
  frame_of (Cert.Kernel.defs (F := Bits)) (Cert.Kernel.threads (F := Bits)) defs_same threads_same m ρ

end Cert.Proof

end
-- ==== Proof.Ref.lean ====
/-
  The reference's frame.
-/
module
public import proofs.«01_k».proof.Defs
public import proofs.«01_k».proof.Proof.Gen.ReferenceIdeal
public import proofs.«01_k».proof.Proof.Gen.ReferenceIdeal.Run
public import Idealize.ShloMosaic.Adequacy
public import Idealize.ShloMosaic.Init
public import Idealize.ShloMosaic.Lib.Quiescent

@[expose] public section

noncomputable section

namespace Cert.Proof

open Idealize.ShloMosaic Idealize.SL.Sem

/-- The reference runs on every memory, leaves its arguments, and has no semaphore to leave up. -/
theorem frame_ref : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Proof

end
-- ==== Proof.Value.lean ====
/-
  What the kernel's result is, element by element: the maximum of the four pixels of the image that the grid names.
-/
module
public import proofs.«01_k».proof.Proof.Vals

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- The pixel of channel `c` at the flat position `n`. -/
def pix (c : Fin 96) (n : ℕ) : S96x512x512.Idx := fun
  | 0 => c
  | 1 => ⟨n / 512 % 512, Nat.mod_lt _ (by decide)⟩
  | 2 => ⟨n % 512, Nat.mod_lt _ (by decide)⟩

/-- The grid's place `(h, w, k)`. -/
def site (h w : Fin 256) (k : ℕ) : S256x256x4.Idx := fun
  | 0 => h
  | 1 => w
  | 2 => ⟨k % 4, Nat.mod_lt _ (by decide)⟩

/-- One image through the three kernels. -/
def pooled (g : S96x512x512.Idx → F .f32) (l : S262144.Idx → BitVec 32) : S96x256x256.Idx → F .f32 :=
  outAll (shapeCast S256x256x96 (poolRows (shapeCast S262144x128 (padAll g) shapeCasts_S512x512x128_S262144x128) l) shapeCasts_S65536x96_S256x256x96)

/-- The padded image's place of channel `c` at the flat position `n`. -/
def cell (n : ℕ) (c : Fin 96) : S512x512x128.Idx := fun
  | 0 => ⟨n / 512 % 512, Nat.mod_lt _ (by decide)⟩
  | 1 => ⟨n % 512, Nat.mod_lt _ (by decide)⟩
  | 2 => ⟨c.val, Nat.lt_trans c.isLt (by decide)⟩

/-- The padded table's row `w` in column `c` is the pixel of channel `c` at `w`. -/
theorem table_apply (g : S96x512x512.Idx → F .f32) (w : BitVec 32) (hw : w.toNat < 262144) (c : Fin 96) :
    shapeCast S262144x128 (padAll g) shapeCasts_S512x512x128_S262144x128 (rowIx w c.val) = g (pix c w.toNat) := by
  have hc := c.isLt
  refine (shapeCast_apply _ _ _ (cell w.toNat c) ?_).trans ?_
  · rw [Shape.rowMajor_val_three, Shape.rowMajor_val_two]
    show (w.toNat / 512 % 512 * 512 + w.toNat % 512) * 128 + c.val = w.toNat % 262144 * 128 + c.val % 128
    omega
  · refine (dif_pos (show (cell w.toNat c 2).val < 96 from hc)).trans (congrArg g ?_)
    funext a
    match a with
    | 0 => rfl
    | 1 => rfl
    | 2 => rfl

/-- The list's word at four times a position's number, and `k`. -/
theorem word_apply (a : S256x256x4x2.Idx → F .f32) (h w : Fin 256) (k : Fin 4) :
    wordAt (listOf a) (4 * (h.val * 256 + w.val) + k.val) = flat a (site h w k.val) := by
  have h0 := h.isLt
  have h1 := w.isLt
  have h2 := k.isLt
  unfold wordAt
  rw [dif_pos (show 4 * (h.val * 256 + w.val) + k.val < 262144 by omega)]
  refine shapeCast_apply _ _ _ _ ?_
  rw [Shape.rowMajor_val_three, Shape.rowMajor_val_one]
  show (h.val * 256 + w.val) * 4 + k.val % 4 = 4 * (h.val * 256 + w.val) + k.val
  omega

/-- An image pooled, at an element. -/
theorem pooled_apply (g : S96x512x512.Idx → F .f32) (a : S256x256x4x2.Idx → F .f32) (c : Fin 96) (h w : Fin 256) (p : S96x256x256.Idx)
    (hp : p = fun | 0 => c | 1 => h | 2 => w) :
    pooled g (listOf a) p = max4 (g (pix c (flat a (site h w 0)).toNat)) (g (pix c (flat a (site h w 1)).toNat))
      (g (pix c (flat a (site h w 2)).toNat)) (g (pix c (flat a (site h w 3)).toNat)) := by
  subst hp
  have h0 := h.isLt
  have h1 := w.isLt
  unfold pooled outAll
  refine (shapeCast_apply _ _ _ (fun | 0 => ⟨h.val * 256 + w.val, show _ < 65536 by omega⟩ | 1 => c : S65536x96.Idx) ?_).trans ?_
  · rw [Shape.rowMajor_val_two, Shape.rowMajor_val_three]
    rfl
  · have e : ∀ k : Fin 4, shapeCast S262144x128 (padAll g) shapeCasts_S512x512x128_S262144x128
        (rowIx (wordAt (listOf a) (4 * (h.val * 256 + w.val) + k.val)) c.val) = g (pix c (flat a (site h w k.val)).toNat) := fun k => by
      rw [table_apply _ _ (wordAt_lt _ _), word_apply]
    exact congr (congr (congr (congrArg max4 (e 0)) (e 1)) (e 2)) (e 3)

/-- The first image. -/
theorem image0 (x : S2x96x512x512.Idx → F .f32) (q : S96x512x512.Idx) (r : S2x96x512x512.Idx)
    (hr : r = fun | 0 => (0 : Fin 2) | 1 => q 0 | 2 => q 1 | 3 => q 2) :
    shapeCast S96x512x512 (extractStridedSlice S1x96x512x512 ![0, 0, 0, 0] x slices_S2x96x512x512_S1x96x512x512_0_0_0_0)
      shapeCasts_S1x96x512x512_S96x512x512 q = x r := by
  subst hr
  refine (shapeCast_apply _ _ _ (fun | 0 => (0 : Fin 1) | 1 => q 0 | 2 => q 1 | 3 => q 2 : S1x96x512x512.Idx) ?_).trans ?_
  · rw [Shape.rowMajor_val_four, Shape.rowMajor_val_three]
    show ((0 * 96 + (q 0).val) * 512 + (q 1).val) * 512 + (q 2).val = ((q 0).val * 512 + (q 1).val) * 512 + (q 2).val
    omega
  · refine extractStridedSlice_apply _ _ _ _ _ fun a => ?_
    match a with
    | 0 => rfl
    | 1 => exact (Nat.zero_add _).symm
    | 2 => exact (Nat.zero_add _).symm
    | 3 => exact (Nat.zero_add _).symm

/-- The second image. -/
theorem image1 (x : S2x96x512x512.Idx → F .f32) (q : S96x512x512.Idx) (r : S2x96x512x512.Idx)
    (hr : r = fun | 0 => (1 : Fin 2) | 1 => q 0 | 2 => q 1 | 3 => q 2) :
    shapeCast S96x512x512 (extractStridedSlice S1x96x512x512 ![1, 0, 0, 0] x slices_S2x96x512x512_S1x96x512x512_1_0_0_0)
      shapeCasts_S1x96x512x512_S96x512x512 q = x r := by
  subst hr
  refine (shapeCast_apply _ _ _ (fun | 0 => (0 : Fin 1) | 1 => q 0 | 2 => q 1 | 3 => q 2 : S1x96x512x512.Idx) ?_).trans ?_
  · rw [Shape.rowMajor_val_four, Shape.rowMajor_val_three]
    show ((0 * 96 + (q 0).val) * 512 + (q 1).val) * 512 + (q 2).val = ((q 0).val * 512 + (q 1).val) * 512 + (q 2).val
    omega
  · refine extractStridedSlice_apply _ _ _ _ _ fun a => ?_
    match a with
    | 0 => rfl
    | 1 => exact (Nat.zero_add _).symm
    | 2 => exact (Nat.zero_add _).symm
    | 3 => exact (Nat.zero_add _).symm

/-- The kernel's result from its arguments. -/
def result (x : S2x96x512x512.Idx → F .f32) (a : S256x256x4x2.Idx → F .f32) : S2x96x256x256.Idx → F .f32 :=
  concatenate S2x96x256x256 0
    [⟨S1x96x256x256, broadcastInDim S1x96x256x256 ![1, 2, 3] bcast_S96x256x256_S1x96x256x256_1_2_3
        (pooled (shapeCast S96x512x512 (extractStridedSlice S1x96x512x512 ![0, 0, 0, 0] x slices_S2x96x512x512_S1x96x512x512_0_0_0_0)
          shapeCasts_S1x96x512x512_S96x512x512) (listOf a))⟩,
     ⟨S1x96x256x256, broadcastInDim S1x96x256x256 ![1, 2, 3] bcast_S96x256x256_S1x96x256x256_1_2_3
        (pooled (shapeCast S96x512x512 (extractStridedSlice S1x96x512x512 ![1, 0, 0, 0] x slices_S2x96x512x512_S1x96x512x512_1_0_0_0)
          shapeCasts_S1x96x512x512_S96x512x512) (listOf a))⟩]
    concatenates_S1x96x256x256_S1x96x256x256_S2x96x256x256_d0

/-- The pixel of image `b`, channel `c`, at the flat position `n`. -/
def pixel (b : Fin 2) (c : Fin 96) (n : ℕ) : S2x96x512x512.Idx := fun
  | 0 => b
  | 1 => c
  | 2 => ⟨n / 512 % 512, Nat.mod_lt _ (by decide)⟩
  | 3 => ⟨n % 512, Nat.mod_lt _ (by decide)⟩

/-- A stack's layer. -/
theorem layer (g : S96x256x256.Idx → F .f32) (c : Fin 96) (h w : Fin 256) :
    broadcastInDim S1x96x256x256 ![1, 2, 3] bcast_S96x256x256_S1x96x256x256_1_2_3 g (fun | 0 => (0 : Fin 1) | 1 => c | 2 => h | 3 => w)
      = g (fun | 0 => c | 1 => h | 2 => w) := by
  refine broadcastInDim_apply _ _ _ _ _ fun a => ?_
  match a with
  | 0 => rfl
  | 1 => rfl
  | 2 => rfl

/-- The kernel's result at an element. -/
theorem result_apply (x : S2x96x512x512.Idx → F .f32) (a : S256x256x4x2.Idx → F .f32) (b : Fin 2) (c : Fin 96) (h w : Fin 256) :
    result x a (fun | 0 => b | 1 => c | 2 => h | 3 => w)
      = max4 (x (pixel b c (flat a (site h w 0)).toNat)) (x (pixel b c (flat a (site h w 1)).toNat))
        (x (pixel b c (flat a (site h w 2)).toNat)) (x (pixel b c (flat a (site h w 3)).toNat)) := by
  unfold result
  have hb : b = 0 ∨ b = 1 := by omega
  rcases hb with rfl | rfl
  · refine (concatenate_pair_apply_left (t := S2x96x256x256) (s₁ := S1x96x256x256) (s₂ := S1x96x256x256) 0 _ _ _ _ rfl (fun | 0 => (0 : Fin 1) | 1 => c | 2 => h | 3 => w : S1x96x256x256.Idx) ?_).trans ?_
    · intro a
      match a with
      | 0 => rfl
      | 1 => rfl
      | 2 => rfl
      | 3 => rfl
    · rw [layer, pooled_apply _ a c h w _ rfl]
      have e : ∀ n, shapeCast S96x512x512 (extractStridedSlice S1x96x512x512 ![0, 0, 0, 0] x slices_S2x96x512x512_S1x96x512x512_0_0_0_0)
          shapeCasts_S1x96x512x512_S96x512x512 (pix c n) = x (pixel 0 c n) := fun n => image0 x _ _ (funext fun a => by
        match a with
        | 0 => rfl
        | 1 => rfl
        | 2 => rfl
        | 3 => rfl)
      rw [e, e, e, e]
  · refine (concatenate_pair_apply_right (t := S2x96x256x256) (s₁ := S1x96x256x256) (s₂ := S1x96x256x256) 0 _ _ _ _ rfl rfl (fun | 0 => (0 : Fin 1) | 1 => c | 2 => h | 3 => w : S1x96x256x256.Idx) ?_ ?_).trans ?_
    · intro a ha
      match a with
      | 0 => exact absurd rfl ha
      | 1 => rfl
      | 2 => rfl
      | 3 => rfl
    · rfl
    · rw [layer, pooled_apply _ a c h w _ rfl]
      have e : ∀ n, shapeCast S96x512x512 (extractStridedSlice S1x96x512x512 ![1, 0, 0, 0] x slices_S2x96x512x512_S1x96x512x512_1_0_0_0)
          shapeCasts_S1x96x512x512_S96x512x512 (pix c n) = x (pixel 1 c n) := fun n => image1 x _ _ (funext fun a => by
        match a with
        | 0 => rfl
        | 1 => rfl
        | 2 => rfl
        | 3 => rfl)
      rw [e, e, e, e]

end Cert.Proof

end
-- ==== Proof.Last.lean ====
/-
  The final contents of the result's buffer, as the composed result of the arguments.
-/
module
public import proofs.«01_k».proof.Proof.Value

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Tactic

open Idealize.ShloMosaic.StableHlo (TRef)

variable {F : FTy → Type} [FloatOps F]
variable (m : (ℓ : Loc nD τ sig) → Buf (Elt F) ℓ) (d : Dev nD)

theorem vA_v13 : vA m d (Proc.devRef .tc main_v13)
    = shapeCast S96x512x512 (extractStridedSlice S1x96x512x512 ![0, 0, 0, 0] (m (d, Proc.devRef .tc main_arg0)) slices_S2x96x512x512_S1x96x512x512_0_0_0_0)
        shapeCasts_S1x96x512x512_S96x512x512 := by
  unfold vA
  simp only [opsA, TRef.binary, TRef.nullary, TRef.ternary, TRef.unary, TRef.toBuf, TRef.ofBuf, cast_eq]
  after_results_simp
  rfl

theorem vA_arg0 : vA m d (Proc.devRef .tc main_arg0) = m (d, Proc.devRef .tc main_arg0) := by
  unfold vA
  simp only [opsA, TRef.binary, TRef.nullary, TRef.ternary, TRef.unary, TRef.toBuf, TRef.ofBuf, cast_eq]
  after_results_simp

theorem vC_arg0 : vC m d (Proc.devRef .tc main_arg0) = m (d, Proc.devRef .tc main_arg0) := by
  rw [← vA_arg0 m d]; unfold vC vB; after_results_simp

theorem vD_v18 : vD m d (Proc.devRef .tc main_v18)
    = pooled (shapeCast S96x512x512 (extractStridedSlice S1x96x512x512 ![0, 0, 0, 0] (m (d, Proc.devRef .tc main_arg0)) slices_S2x96x512x512_S1x96x512x512_0_0_0_0)
        shapeCasts_S1x96x512x512_S96x512x512) (listOf (m (d, Proc.devRef .tc main_arg1))) := by
  have e : vD m d (Proc.devRef .tc main_v18)
      = pooled (vA m d (Proc.devRef .tc main_v13)) (vA m d (Proc.devRef .tc main_v11)) := by
    unfold vD vC vB
    after_results_simp
    rfl
  rw [e, vA_v13, vA_v11]

theorem vD_v20 : vD m d (Proc.devRef .tc main_v20)
    = shapeCast S96x512x512 (extractStridedSlice S1x96x512x512 ![1, 0, 0, 0] (m (d, Proc.devRef .tc main_arg0)) slices_S2x96x512x512_S1x96x512x512_1_0_0_0)
        shapeCasts_S1x96x512x512_S96x512x512 := by
  rw [← vC_arg0 m d]
  unfold vD
  after_results_simp
  rfl

theorem vD_v11 : vD m d (Proc.devRef .tc main_v11) = listOf (m (d, Proc.devRef .tc main_arg1)) := by
  rw [← vB_v11]; unfold vD vC; after_results_simp

/-- What the run leaves in the result's buffer. -/
theorem vH_v28 : vH m d (Proc.devRef .tc main_v28) = result (m (d, Proc.devRef .tc main_arg0)) (m (d, Proc.devRef .tc main_arg1)) := by
  have e : vH m d (Proc.devRef .tc main_v28)
      = concatenate S2x96x256x256 0
          [⟨S1x96x256x256, broadcastInDim S1x96x256x256 ![1, 2, 3] bcast_S96x256x256_S1x96x256x256_1_2_3 (vD m d (Proc.devRef .tc main_v18))⟩,
           ⟨S1x96x256x256, broadcastInDim S1x96x256x256 ![1, 2, 3] bcast_S96x256x256_S1x96x256x256_1_2_3
              (pooled (vD m d (Proc.devRef .tc main_v20)) (vD m d (Proc.devRef .tc main_v11)))⟩]
          concatenates_S1x96x256x256_S1x96x256x256_S2x96x256x256_d0 := by
    unfold vH vG vE
    after_results_simp
    rfl
  rw [e, vD_v18, vD_v20, vD_v11]
  rfl

end Cert.Proof

end
-- ==== Proof.RefVal.lean ====
/-
  What the reference's result is, element by element, over the extended reals.
-/
module
public import proofs.«01_k».proof.Defs
public import proofs.«01_k».proof.Proof.Gen.ReferenceIdeal
public import proofs.«01_k».proof.Proof.Gen.ReferenceIdeal.Run
public import Idealize.ShloMosaic.PureOps.Reduce
public import Idealize.ShloMosaic.PureOps.Ideal.Laws
public import Idealize.ShloMosaic.Lib.Pipeline.Value

@[expose] public section

noncomputable section

namespace Cert.Proof.Refl

open Cert.ReferenceIdeal Cert.ReferenceIdeal.Gen Idealize.ShloMosaic

/-- The place of a sample in the list of positions. -/
def place (h w : Fin 256) (k : Fin 4) : S256x256x4.Idx := fun
  | 0 => h
  | 1 => w
  | 2 => k

/-- The same with the index vector's axis. -/
def place1 (h w : Fin 256) (k : Fin 4) : S256x256x4x1.Idx := fun
  | 0 => h
  | 1 => w
  | 2 => k
  | 3 => (0 : Fin 1)

/-- The place of a gathered pixel. -/
def spot (b : Fin 2) (c : Fin 96) (h w : Fin 256) (k : Fin 4) : S2x96x256x256x4.Idx := fun
  | 0 => b
  | 1 => c
  | 2 => h
  | 3 => w
  | 4 => k

/-- The place of a result. -/
def out (b : Fin 2) (c : Fin 96) (h w : Fin 256) : S2x96x256x256.Idx := fun
  | 0 => b
  | 1 => c
  | 2 => h
  | 3 => w

/-- The pixel of image `b` and channel `c` at the flat position `n`. -/
def flatPix (b : Fin 2) (c : Fin 96) (n : ℕ) : S2x96x262144.Idx := fun
  | 0 => b
  | 1 => c
  | 2 => ⟨n % 262144, Nat.mod_lt _ (by decide)⟩

/-- The same in the image's own shape. -/
def pixel (b : Fin 2) (c : Fin 96) (n : ℕ) : S2x96x512x512.Idx := fun
  | 0 => b
  | 1 => c
  | 2 => ⟨n / 512 % 512, Nat.mod_lt _ (by decide)⟩
  | 3 => ⟨n % 512, Nat.mod_lt _ (by decide)⟩

/-- The flattened images at a flat position. -/
theorem flat_image {α : Type} (x : S2x96x512x512.Idx → α) (b : Fin 2) (c : Fin 96) (n : ℕ) (hn : n < 262144) :
    shapeCast S2x96x262144 x shapeCasts_S2x96x512x512_S2x96x262144 (flatPix b c n) = x (pixel b c n) := by
  refine shapeCast_apply _ _ _ _ ?_
  rw [Shape.rowMajor_val_four, Shape.rowMajor_val_three]
  show ((b.val * 96 + c.val) * 512 + n / 512 % 512) * 512 + n % 512 = (b.val * 96 + c.val) * 262144 + n % 262144
  omega

/-- A word below the table's height is not negative. -/
theorem not_neg (w : BitVec 32) (hw : w.toNat < 262144) : w.toInt = w.toNat := by
  rw [BitVec.toInt_eq_toNat_cond]
  split_ifs <;> omega

/-- Negative positions are wrapped: none is. -/
def wrapped (fl : S256x256x4.Idx → BitVec 32) : S256x256x4.Idx → BitVec 32 :=
  select (cmpi .slt fl (broadcastInDim S256x256x4 ![] bcast_S_S256x256x4 (constantI S_ 32 0#32)))
    (addi fl (broadcastInDim S256x256x4 ![] bcast_S_S256x256x4 (constantI S_ 32 262144#32))) fl

theorem wrapped_eq (fl : S256x256x4.Idx → BitVec 32) (hf : ∀ p, (fl p).toNat < 262144) : wrapped fl = fl := by
  funext p
  have h : (fl p).slt 0#32 = false := by
    simp only [BitVec.slt, not_neg _ (hf p), decide_eq_false_iff_not]
    show ¬((fl p).toNat : ℤ) < 0
    omega
  show Scalar.select (BitVec.ofBool ((fl p).slt 0#32)) _ (fl p) = fl p
  rw [h]
  rfl

/-- The positions as index vectors. -/
def vecs (fl : S256x256x4.Idx → BitVec 32) : S256x256x4x1.Idx → BitVec 32 :=
  broadcastInDim S256x256x4x1 ![0, 1, 2] bcast_S256x256x4_S256x256x4x1_0_1_2 fl

theorem vecs_lt (fl : S256x256x4.Idx → BitVec 32) (hf : ∀ p, (fl p).toNat < 262144) (q : S256x256x4x1.Idx) : (vecs fl q).toNat < 262144 :=
  hf _

theorem vecs_apply (fl : S256x256x4.Idx → BitVec 32) (h w : Fin 256) (k : Fin 4) : vecs fl (place1 h w k) = fl (place h w k) := by
  refine broadcastInDim_apply _ _ _ _ _ fun a => ?_
  match a with
  | 0 => rfl
  | 1 => rfl
  | 2 => rfl

/-- Whether an index vector is in range. -/
def ranged (v : S256x256x4x1.Idx → BitVec 32) : S256x256x4x1.Idx → BitVec 1 :=
  andi (cmpi .sge v (broadcastInDim S256x256x4x1 ![] bcast_S_S256x256x4x1 (constantI S_ 32 0#32)))
    (cmpi .sle v (broadcastInDim S256x256x4x1 ![0, 1, 2, 3] bcast_S1x1x1x1_S256x256x4x1_0_1_2_3
      (broadcastInDim S1x1x1x1 ![3] bcast_S1_S1x1x1x1_3 (constantI S1 32 262143#32))))

theorem ranged_eq (v : S256x256x4x1.Idx → BitVec 32) (hv : ∀ q, (v q).toNat < 262144) : ranged v = fun _ => 1#1 := by
  funext q
  have h0 : (0#32 : BitVec 32).sle (v q) = true := by
    simp only [BitVec.sle, not_neg _ (hv q), decide_eq_true_eq]
    show (0 : ℤ) ≤ _
    omega
  have h1 : (v q).sle 262143#32 = true := by
    have := hv q
    simp only [BitVec.sle, not_neg _ (hv q), decide_eq_true_eq]
    show _ ≤ (262143 : ℤ)
    omega
  show BitVec.ofBool ((0#32 : BitVec 32).sle (v q)) &&& BitVec.ofBool ((v q).sle 262143#32) = 1#1
  rw [h0, h1]
  rfl

/-- A conjunction of ones is one. -/
theorem all_ones : Host.reduce IntOp.andi (fun _ : S256x256x4x1.Idx => 1#1) (constantI S_ 1 1#1) reducesTo_S256x256x4x1_S256x256x4_d3 h_S_
    = fun _ => 1#1 := by
  funext j
  rw [Host.reduce_eq_foldl]
  generalize (((List.finRange _).map _).filter _ : List S256x256x4x1.Idx) = L
  induction L with
  | nil => rfl
  | cons a L ih => exact ih

/-- The gather at a place. -/
theorem gather_apply {α : Type} (x : S2x96x262144.Idx → α) (v : S256x256x4x1.Idx → BitVec 32) (b : Fin 2) (c : Fin 96) (h w : Fin 256) (k : Fin 4)
    (hv : (v (place1 h w k)).toNat < 262144) :
    Host.gather gather_S2x96x262144_S256x256x4x1_S2x96x256x256x4_01_2_n_n_2_3_2961 x v (spot b c h w k)
      = x (flatPix b c (v (place1 h w k)).toNat) := by
  unfold Host.gather
  refine congrArg x (funext fun a => Fin.ext ?_)
  show gather_S2x96x262144_S256x256x4x1_S2x96x256x256x4_01_2_n_n_2_3_2961.start (spot b c h w k) v a
    + gather_S2x96x262144_S256x256x4x1_S2x96x256x256x4_01_2_n_n_2_3_2961.batchCoord (spot b c h w k) a
    + gather_S2x96x262144_S256x256x4x1_S2x96x256x256x4_01_2_n_n_2_3_2961.offCoord (spot b c h w k) a = _
  rw [GatherDims.batchCoord_eq_zero _ _ _ List.not_mem_nil]
  match a with
  | 0 => exact Nat.zero_add _
  | 1 => exact Nat.zero_add _
  | 2 =>
    rw [GatherDims.offCoord_eq_zero _ _ _ (fun h => ((GatherDims.mem_sKept _ _).mp h).1 (List.mem_singleton.mpr rfl))]
    unfold GatherDims.start
    rw [dif_pos (show (2 : Fin S2x96x262144.rank) ∈ gather_S2x96x262144_S256x256x4x1_S2x96x256x256x4_01_2_n_n_2_3_2961.startIndexMap from List.mem_singleton.mpr rfl)]
    have hsi : ∀ i, gather_S2x96x262144_S256x256x4x1_S2x96x256x256x4_01_2_n_n_2_3_2961.siIdx (spot b c h w k) i = place1 h w k := fun i => by
      funext e
      refine Fin.ext ?_
      match e with
      | 0 => rfl
      | 1 => rfl
      | 2 => rfl
      | 3 => exact Nat.lt_one_iff.mp i.isLt
    rw [hsi, not_neg _ hv]
    show min ((v (place1 h w k)).toNat : ℤ).toNat (262144 - 1) + 0 + 0 = (v (place1 h w k)).toNat % 262144
    rw [Int.toNat_natCast]
    omega

/-- The taken pixels, with the mask of the positions in range. -/
def taken (x : S2x96x262144.Idx → Ideal .f32) (v : S256x256x4x1.Idx → BitVec 32) : S2x96x256x256x4.Idx → Ideal .f32 :=
  select (broadcastInDim S2x96x256x256x4 ![2, 3, 4] bcast_S256x256x4_S2x96x256x256x4_2_3_4
      (Host.reduce IntOp.andi (ranged v) (constantI S_ 1 1#1) reducesTo_S256x256x4x1_S256x256x4_d3 h_S_))
    (Host.gather gather_S2x96x262144_S256x256x4x1_S2x96x256x256x4_01_2_n_n_2_3_2961 x v)
    (broadcastInDim S2x96x256x256x4 ![] bcast_S_S2x96x256x256x4 (constant S_ .f32 0x7FC00000#32))

theorem taken_eq (x : S2x96x262144.Idx → Ideal .f32) (v : S256x256x4x1.Idx → BitVec 32) (hv : ∀ q, (v q).toNat < 262144) :
    taken x v = Host.gather gather_S2x96x262144_S256x256x4x1_S2x96x256x256x4_01_2_n_n_2_3_2961 x v := by
  unfold taken
  rw [ranged_eq v hv, all_ones]
  rfl

/-- The maximum of four values, from the least one. -/
theorem fold_four (f : Fin 4 → EReal) : (Finset.univ : Finset (Fin 4)).fold max (⊥ : EReal) f = max (max (f 0) (f 1)) (max (f 2) (f 3)) := by
  have hu : (Finset.univ : Finset (Fin 4)) = {0, 1, 2, 3} := by decide
  rw [hu, Finset.fold_insert (by decide), Finset.fold_insert (by decide), Finset.fold_insert (by decide), Finset.fold_singleton,
    max_bot_right, max_assoc]

/-- The maximum over the samples. -/
theorem max_apply (y : S2x96x256x256x4.Idx → Ideal .f32) (b : Fin 2) (c : Fin 96) (h w : Fin 256) :
    Host.reduce (FloatOps.maximumf (F := Ideal) (φ := .f32)) y (constant S_ .f32 0xFF800000#32) reducesTo_S2x96x256x256x4_S2x96x256x256_d4 h_S_ (out b c h w)
      = max (max (y (spot b c h w 0)) (y (spot b c h w 1))) (max (y (spot b c h w 2)) (y (spot b c h w 3))) := by
  have hr : S2x96x256x256x4.Reduces [4] S2x96x256x256 := by decide
  rw [Host.reduce_eq_fold_single _ _ _ _ hr]
  have hl : ∀ k : Fin 4, hr.lift (out b c h w) k = spot b c h w k := fun k => by
    funext a
    refine Fin.ext ?_
    match a with
    | 0 => rfl
    | 1 => rfl
    | 2 => rfl
    | 3 => rfl
    | 4 => rfl
  have hbot : (constant S_ .f32 0xFF800000#32 : S_.Idx → Ideal .f32) (Shape.Idx.first h_S_) = (⊥ : EReal) := by
    show Ideal.ofBits .f32 0xFF800000#32 = ⊥
    simp [Ideal.ofBits, Ideal.ieee]
  rw [hbot]
  refine (fold_four fun k => y (hr.lift (out b c h w) k)).trans ?_
  simp only [hl]

end Cert.Proof.Refl

end
-- ==== Proof.Same.lean ====
/-
  The kernel's result and the reference's are the same, element by element.
-/
module
public import proofs.«01_k».proof.Proof.RefVal
public import proofs.«01_k».proof.Proof.Value

@[expose] public section

noncomputable section

namespace Cert.Proof

open Idealize.ShloMosaic

/-- The reference's result from its arguments. -/
def Refl.result (x : Cert.ReferenceIdeal.S2x96x512x512.Idx → Ideal .f32) (a : Cert.KernelIdeal.S256x256x4x2.Idx → Ideal .f32) :
    Cert.ReferenceIdeal.S2x96x256x256.Idx → Ideal .f32 :=
  Host.reduce (FloatOps.maximumf (F := Ideal) (φ := .f32))
    (Refl.taken (shapeCast Cert.ReferenceIdeal.S2x96x262144 x Cert.ReferenceIdeal.Gen.shapeCasts_S2x96x512x512_S2x96x262144)
      (Refl.vecs (Refl.wrapped (flat a))))
    (constant Cert.ReferenceIdeal.S_ .f32 0xFF800000#32) Cert.ReferenceIdeal.Gen.reducesTo_S2x96x256x256x4_S2x96x256x256_d4 Cert.ReferenceIdeal.Gen.h_S_

/-- The reference's result at an element. -/
theorem Refl.result_apply (x : Cert.ReferenceIdeal.S2x96x512x512.Idx → Ideal .f32) (a : Cert.KernelIdeal.S256x256x4x2.Idx → Ideal .f32)
    (b : Fin 2) (c : Fin 96) (h w : Fin 256) :
    Refl.result x a (Refl.out b c h w)
      = max (max (x (Refl.pixel b c (flat a (Refl.place h w 0)).toNat)) (x (Refl.pixel b c (flat a (Refl.place h w 1)).toNat)))
        (max (x (Refl.pixel b c (flat a (Refl.place h w 2)).toNat)) (x (Refl.pixel b c (flat a (Refl.place h w 3)).toNat))) := by
  have hf : ∀ p, (flat a p).toNat < 262144 := flat_lt a
  unfold Refl.result
  rw [Refl.wrapped_eq (flat a) hf, Refl.taken_eq _ _ (Refl.vecs_lt _ hf), Refl.max_apply]
  have e : ∀ k, Host.gather Cert.ReferenceIdeal.gather_S2x96x262144_S256x256x4x1_S2x96x256x256x4_01_2_n_n_2_3_2961
      (shapeCast Cert.ReferenceIdeal.S2x96x262144 x Cert.ReferenceIdeal.Gen.shapeCasts_S2x96x512x512_S2x96x262144)
      (Refl.vecs (flat a)) (Refl.spot b c h w k) = x (Refl.pixel b c (flat a (Refl.place h w k)).toNat) := fun k => by
    rw [Refl.gather_apply _ _ _ _ _ _ _ (Refl.vecs_lt _ hf _), Refl.vecs_apply, Refl.flat_image _ _ _ _ (hf _)]
  rw [e, e, e, e]

/-- The two ways to name a pixel agree. -/
theorem pixel_same (b : Fin 2) (c : Fin 96) (n : ℕ) : pixel b c n = Refl.pixel b c n := funext fun e => by
  match e with
  | 0 => rfl
  | 1 => rfl
  | 2 => rfl
  | 3 => rfl

/-- The two ways to name a sample's place agree. -/
theorem site_same (h w : Fin 256) (k : Fin 4) : site h w k.val = Refl.place h w k := funext fun e => by
  match e with
  | 0 => rfl
  | 1 => rfl
  | 2 => exact Fin.ext (Nat.mod_eq_of_lt k.isLt)

/-- The two results are one at an element. -/
theorem results_at (x : Cert.KernelIdeal.S2x96x512x512.Idx → Ideal .f32) (a : Cert.KernelIdeal.S256x256x4x2.Idx → Ideal .f32)
    (b : Fin 2) (c : Fin 96) (h w : Fin 256) :
    result x a (fun | 0 => b | 1 => c | 2 => h | 3 => w) = Refl.result x a (Refl.out b c h w) := by
  have e : ∀ k : Fin 4, x (pixel b c (flat a (site h w k.val)).toNat) = x (Refl.pixel b c (flat a (Refl.place h w k)).toNat) := fun k => by
    rw [site_same, pixel_same]
  refine (result_apply x a b c h w).trans (Eq.trans ?_ (Refl.result_apply x a b c h w).symm)
  have e4 : max4 (F := Ideal) _ _ _ _ = max4 (F := Ideal) _ _ _ _ := congr (congr (congr (congrArg (max4 (F := Ideal)) (e 0)) (e 1)) (e 2)) (e 3)
  exact e4

/-- The two results are one. -/
theorem results_same (x : Cert.KernelIdeal.S2x96x512x512.Idx → Ideal .f32) (a : Cert.KernelIdeal.S256x256x4x2.Idx → Ideal .f32) :
    result x a = Refl.result x a := by
  funext p
  have hp : p = fun | 0 => p 0 | 1 => p 1 | 2 => p 2 | 3 => p 3 := funext fun e => by
    match e with
    | 0 => rfl
    | 1 => rfl
    | 2 => rfl
    | 3 => rfl
  have hq : p = Refl.out (p 0) (p 1) (p 2) (p 3) := funext fun e => by
    match e with
    | 0 => rfl
    | 1 => rfl
    | 2 => rfl
    | 3 => rfl
  exact (congrArg (result x a) hp).trans ((results_at x a (p 0) (p 1) (p 2) (p 3)).trans (congrArg (Refl.result x a) hq).symm)

/-- What the reference leaves is its result from its arguments. -/
theorem ref_out (m : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v13 m c
      = Refl.result (m ((c.tc : Thread Cert.ReferenceIdeal.nD Cert.ReferenceIdeal.τ).loc Cert.ReferenceIdeal.main_arg0))
        (m ((c.tc : Thread Cert.ReferenceIdeal.nD Cert.ReferenceIdeal.τ).loc Cert.ReferenceIdeal.main_arg1)) := by
  unfold Cert.ReferenceIdeal.Value.res_main_v13
  rfl

end Cert.Proof

end
-- ==== Proof.Algebraic.lean ====
/-
  The value claim: over the extended reals the kernel's result is the reference's.
-/
module
public import proofs.«01_k».proof.Defs
public import proofs.«01_k».proof.Proof.Run
public import proofs.«01_k».proof.Proof.Last
public import proofs.«01_k».proof.Proof.Same

@[expose] public section

noncomputable section

namespace Cert.Proof

open Idealize.ShloMosaic Idealize.SL.Sem

/-- From memories that agree on the arguments, the kernel and the reference leave one result. -/
theorem algebraic : Cert.algebraic_KernelIdeal_ReferenceIdeal := fun m g m' g' _ hag =>
  ⟨fun c => vH m c (Proc.devRef .tc Cert.KernelIdeal.main_v28),
    (θ_run Cert.KernelIdeal.defs _ _).mono (fun _ h => h.1) (run_main (F := Ideal) m g),
    (θ_run Cert.ReferenceIdeal.defs _ _).mono
      (fun _ h c => ⟨(h c).1.trans (by
          refine (ref_out m' c).trans (Eq.trans ?_ (vH_v28 m c).symm)
          rw [(hag c).1, (hag c).2]
          exact (results_same _ _).symm), (h c).2⟩)
      (Cert.ReferenceIdeal.Value.run (F := Ideal) m' g')⟩

end Cert.Proof

end
-- ==== Proof.lean ====
module

public import proofs.«01_k».proof.Defs
public import proofs.«01_k».proof.Proof.Frames
public import proofs.«01_k».proof.Proof.Ref
public import proofs.«01_k».proof.Proof.Algebraic

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    frame_kernel, frame_ideal, frame_ref, trivial, algebraic⟩

end Cert.Proof

end
